-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S_ : Shape := ⟨0, ![]⟩
abbrev S1024x8192 : Shape := ⟨2, ![1024, 8192]⟩
abbrev S1024x1024 : Shape := ⟨2, ![1024, 1024]⟩
abbrev S2048x2048 : Shape := ⟨2, ![2048, 2048]⟩
abbrev S2048x1024 : Shape := ⟨2, ![2048, 1024]⟩
abbrev S4 : Shape := ⟨1, ![4]⟩
abbrev S1 : Shape := ⟨1, ![1]⟩
abbrev S1024x128 : Shape := ⟨2, ![1024, 128]⟩
abbrev S1024x256 : Shape := ⟨2, ![1024, 256]⟩
abbrev S1024x384 : Shape := ⟨2, ![1024, 384]⟩
abbrev S2048x128 : Shape := ⟨2, ![2048, 128]⟩
abbrev S2048x256 : Shape := ⟨2, ![2048, 256]⟩
abbrev S2048x384 : Shape := ⟨2, ![2048, 384]⟩

abbrev nBuf : Space → Nat
  | .hbm => 52
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i1⟩
  | .hbm, ⟨27, _⟩ => ⟨S_, .i1⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1024x8192, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1024x8192, .f32⟩
  | .hbm, ⟨49, _⟩ => ⟨S1024x1024, .f32⟩
  | .hbm, ⟨50, _⟩ => ⟨S1024x1024, .bf16⟩
  | .hbm, ⟨51, _⟩ => ⟨S2048x2048, .f32⟩
  | .local _ .vmem, ⟨0, _⟩ => ⟨S1024x1024, .bf16⟩
  | .local _ .vmem, ⟨1, _⟩ => ⟨S2048x2048, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_c_1 : Ref sig .tc := ⟨.hbm, 21, rfl⟩
abbrev main_call0_v4 : Ref sig .tc := ⟨.hbm, 22, rfl⟩
abbrev main_call0_c_2 : Ref sig .tc := ⟨.hbm, 23, rfl⟩
abbrev main_call0_v5 : Ref sig .tc := ⟨.hbm, 24, rfl⟩
abbrev main_call0_c_3 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_v9 : Ref sig .tc := ⟨.hbm, 30, rfl⟩
abbrev main_c_4 : Ref sig .tc := ⟨.hbm, 31, rfl⟩
abbrev main_v10 : Ref sig .tc := ⟨.hbm, 32, rfl⟩
abbrev main_c_5 : Ref sig .tc := ⟨.hbm, 33, rfl⟩
abbrev main_v11 : Ref sig .tc := ⟨.hbm, 34, rfl⟩
abbrev main_c_6 : Ref sig .tc := ⟨.hbm, 35, rfl⟩
abbrev main_v12 : Ref sig .tc := ⟨.hbm, 36, rfl⟩
abbrev main_v13 : Ref sig .tc := ⟨.hbm, 37, rfl⟩
abbrev main_c_7 : Ref sig .tc := ⟨.hbm, 38, rfl⟩
abbrev main_v14 : Ref sig .tc := ⟨.hbm, 39, rfl⟩
abbrev main_c_8 : Ref sig .tc := ⟨.hbm, 40, rfl⟩
abbrev main_v15 : Ref sig .tc := ⟨.hbm, 41, rfl⟩
abbrev main_c_9 : Ref sig .tc := ⟨.hbm, 42, rfl⟩
abbrev main_v16 : Ref sig .tc := ⟨.hbm, 43, rfl⟩
abbrev main_c_10 : Ref sig .tc := ⟨.hbm, 44, rfl⟩
abbrev main_v17 : Ref sig .tc := ⟨.hbm, 45, rfl⟩
abbrev main_v18 : Ref sig .tc := ⟨.hbm, 46, rfl⟩
abbrev main_c_11 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_17 : BitVec 32 := 8#32
  let v31 : BitVec 32 := Scalar.muli v19 c8_i32_17
  let v32 : BitVec 32 := Scalar.addi c0_i32_18 v31
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v33 : BitVec 32 := Scalar.muli v5 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_24 : BitVec 32 := 4#32
  let v39 : BitVec 32 := Scalar.muli v20 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v41 : BitVec 32 := Scalar.muli v8 c1_i32_25
  let v42 : BitVec 32 := Scalar.addi v40 v41
  v42.toNat
def k0_dev3 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v43 : BitVec 32 := Scalar.muli v2 c8_i32_27
  let v44 : BitVec 32 := Scalar.addi c0_i32_28 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v45 : BitVec 32 := Scalar.muli v5 c4_i32_29
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_30 : BitVec 32 := 1#32
  let v47 : BitVec 32 := Scalar.muli v23 c1_i32_30
  let v48 : BitVec 32 := Scalar.addi v46 v47
  v48.toNat
def k0_dev4 (d0 : Dev nD) : Nat :=
  let c0_i32_34 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_33 : BitVec 32 := 8#32
  let v49 : BitVec 32 := Scalar.muli v19 c8_i32_33
  let v50 : BitVec 32 := Scalar.addi c0_i32_34 v49
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v51 : BitVec 32 := Scalar.muli v5 c4_i32_35
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v53 : BitVec 32 := Scalar.muli v8 c1_i32_36
  let v54 : BitVec 32 := Scalar.addi v52 v53
  v54.toNat
def k0_dev5 (d0 : Dev nD) : Nat :=
  let c0_i32_44 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_43 : BitVec 32 := 8#32
  let v61 : BitVec 32 := Scalar.muli v19 c8_i32_43
  let v62 : BitVec 32 := Scalar.addi c0_i32_44 v61
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_45 : BitVec 32 := 4#32
  let v63 : BitVec 32 := Scalar.muli v5 c4_i32_45
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v65 : BitVec 32 := Scalar.muli v8 c1_i32_46
  let v66 : BitVec 32 := Scalar.addi v64 v65
  v66.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v87 : Index := Scalar.indexCast v24
  let c0_63 : Index := 0#32
  ![v87.toNat, 0]
def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v93 : Index := Scalar.indexCast v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_13 : BitVec 32 := 1024#32
  let v27 : BitVec 32 := Scalar.muli v18 c1024_i32_13
  let c0_i32_64 : BitVec 32 := 0#32
  let v92 : BitVec 32 := Scalar.addi v27 c0_i32_64
  let v94 : Index := Scalar.indexCast v92
  ![v93.toNat, v94.toNat]
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let c0_i32_73 : BitVec 32 := 0#32
  ![v24.toNat, 0]
def k0_dev6 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v96 : BitVec 32 := Scalar.muli v2 c8_i32_67
  let v97 : BitVec 32 := Scalar.addi c0_i32_68 v96
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_69 : BitVec 32 := 4#32
  let v98 : BitVec 32 := Scalar.muli v20 c4_i32_69
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v100 : BitVec 32 := Scalar.muli v8 c1_i32_70
  let v101 : BitVec 32 := Scalar.addi v99 v100
  v101.toNat
def k0_dev7 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v108 : BitVec 32 := Scalar.muli v2 c8_i32_76
  let v109 : BitVec 32 := Scalar.addi c0_i32_77 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v110 : BitVec 32 := Scalar.muli v5 c4_i32_78
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_79 : BitVec 32 := 1#32
  let v112 : BitVec 32 := Scalar.muli v23 c1_i32_79
  let v113 : BitVec 32 := Scalar.addi v111 v112
  v113.toNat
def k0_dev8 (d0 : Dev nD) : Nat :=
  let c0_i32_85 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_84 : BitVec 32 := 8#32
  let v120 : BitVec 32 := Scalar.muli v19 c8_i32_84
  let v121 : BitVec 32 := Scalar.addi c0_i32_85 v120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v122 : BitVec 32 := Scalar.muli v5 c4_i32_86
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v124 : BitVec 32 := Scalar.muli v8 c1_i32_87
  let v125 : BitVec 32 := Scalar.addi v123 v124
  v125.toNat
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v146 : Index := Scalar.indexCast v24
  let c128_104 : Index := 128#32
  ![v146.toNat, 128]
def k0_off5 (d0 : Dev nD) (c128_i32_105 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v152 : Index := Scalar.indexCast v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_13 : BitVec 32 := 1024#32
  let v27 : BitVec 32 := Scalar.muli v18 c1024_i32_13
  let v151 : BitVec 32 := Scalar.addi v27 c128_i32_105
  let v153 : Index := Scalar.indexCast v151
  ![v152.toNat, v153.toNat]
def k0_off6 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let c128_i32_114 : BitVec 32 := 128#32
  ![v24.toNat, 128]
def k0_dev9 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v155 : BitVec 32 := Scalar.muli v2 c8_i32_108
  let v156 : BitVec 32 := Scalar.addi c0_i32_109 v155
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_110 : BitVec 32 := 4#32
  let v157 : BitVec 32 := Scalar.muli v20 c4_i32_110
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v159 : BitVec 32 := Scalar.muli v8 c1_i32_111
  let v160 : BitVec 32 := Scalar.addi v158 v159
  v160.toNat
def k0_dev10 (d0 : Dev nD) : Nat :=
  let c0_i32_118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_117 : BitVec 32 := 8#32
  let v167 : BitVec 32 := Scalar.muli v2 c8_i32_117
  let v168 : BitVec 32 := Scalar.addi c0_i32_118 v167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_119 : BitVec 32 := 4#32
  let v169 : BitVec 32 := Scalar.muli v5 c4_i32_119
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_120 : BitVec 32 := 1#32
  let v171 : BitVec 32 := Scalar.muli v23 c1_i32_120
  let v172 : BitVec 32 := Scalar.addi v170 v171
  v172.toNat
def k0_off7 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v190 : Index := Scalar.indexCast v26
  let c0_134 : Index := 0#32
  ![v190.toNat, 0]
def k0_off8 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v196 : Index := Scalar.indexCast v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_13 : BitVec 32 := 1024#32
  let v27 : BitVec 32 := Scalar.muli v18 c1024_i32_13
  let c0_i32_135 : BitVec 32 := 0#32
  let v195 : BitVec 32 := Scalar.addi v27 c0_i32_135
  let v197 : Index := Scalar.indexCast v195
  ![v196.toNat, v197.toNat]
def k0_off9 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let c0_i32_142 : BitVec 32 := 0#32
  ![v26.toNat, 0]
def k0_dev11 (d0 : Dev nD) : Nat :=
  let c0_i32_139 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_138 : BitVec 32 := 8#32
  let v199 : BitVec 32 := Scalar.muli v2 c8_i32_138
  let v200 : BitVec 32 := Scalar.addi c0_i32_139 v199
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_140 : BitVec 32 := 4#32
  let v201 : BitVec 32 := Scalar.muli v5 c4_i32_140
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_141 : BitVec 32 := 1#32
  let v203 : BitVec 32 := Scalar.muli v23 c1_i32_141
  let v204 : BitVec 32 := Scalar.addi v202 v203
  v204.toNat
def k0_dev12 (d0 : Dev nD) : Nat :=
  let c0_i32_147 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_146 : BitVec 32 := 8#32
  let v211 : BitVec 32 := Scalar.muli v19 c8_i32_146
  let v212 : BitVec 32 := Scalar.addi c0_i32_147 v211
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_148 : BitVec 32 := 4#32
  let v213 : BitVec 32 := Scalar.muli v5 c4_i32_148
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v215 : BitVec 32 := Scalar.muli v8 c1_i32_149
  let v216 : BitVec 32 := Scalar.addi v214 v215
  v216.toNat
def k0_off10 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v237 : Index := Scalar.indexCast v24
  let c384_166 : Index := 384#32
  ![v237.toNat, 384]
def k0_off11 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let c384_i32_176 : BitVec 32 := 384#32
  ![v24.toNat, 384]
def k0_dev13 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v246 : BitVec 32 := Scalar.muli v2 c8_i32_170
  let v247 : BitVec 32 := Scalar.addi c0_i32_171 v246
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_172 : BitVec 32 := 4#32
  let v248 : BitVec 32 := Scalar.muli v20 c4_i32_172
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v250 : BitVec 32 := Scalar.muli v8 c1_i32_173
  let v251 : BitVec 32 := Scalar.addi v249 v250
  v251.toNat
def k0_dev14 (d0 : Dev nD) : Nat :=
  let c0_i32_180 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_179 : BitVec 32 := 8#32
  let v258 : BitVec 32 := Scalar.muli v2 c8_i32_179
  let v259 : BitVec 32 := Scalar.addi c0_i32_180 v258
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_181 : BitVec 32 := 4#32
  let v260 : BitVec 32 := Scalar.muli v5 c4_i32_181
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_182 : BitVec 32 := 1#32
  let v262 : BitVec 32 := Scalar.muli v23 c1_i32_182
  let v263 : BitVec 32 := Scalar.addi v261 v262
  v263.toNat
def k0_off12 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v281 : Index := Scalar.indexCast v26
  let c128_196 : Index := 128#32
  ![v281.toNat, 128]
def k0_off13 (d0 : Dev nD) (c128_i32_197 : BitVec 32) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v287 : Index := Scalar.indexCast v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_13 : BitVec 32 := 1024#32
  let v27 : BitVec 32 := Scalar.muli v18 c1024_i32_13
  let v286 : BitVec 32 := Scalar.addi v27 c128_i32_197
  let v288 : Index := Scalar.indexCast v286
  ![v287.toNat, v288.toNat]
def k0_off14 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let c128_i32_204 : BitVec 32 := 128#32
  ![v26.toNat, 128]
def k0_dev15 (d0 : Dev nD) : Nat :=
  let c0_i32_201 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_200 : BitVec 32 := 8#32
  let v290 : BitVec 32 := Scalar.muli v2 c8_i32_200
  let v291 : BitVec 32 := Scalar.addi c0_i32_201 v290
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_202 : BitVec 32 := 4#32
  let v292 : BitVec 32 := Scalar.muli v5 c4_i32_202
  let v293 : BitVec 32 := Scalar.addi v291 v292
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_203 : BitVec 32 := 1#32
  let v294 : BitVec 32 := Scalar.muli v23 c1_i32_203
  let v295 : BitVec 32 := Scalar.addi v293 v294
  v295.toNat
def k0_off15 (d0 : Dev nD) : Fin 2 → Nat :=
  let c0_225 : Index := 0#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_14 v18
  let c1024_i32_15 : BitVec 32 := 1024#32
  let v29 : BitVec 32 := Scalar.muli v28 c1024_i32_15
  let c0_i32_224 : BitVec 32 := 0#32
  let v324 : BitVec 32 := Scalar.addi v29 c0_i32_224
  let v325 : Index := Scalar.indexCast v324
  ![0, v325.toNat]
def k0_off16 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v341 : Index := Scalar.indexCast v24
  let c640_239 : Index := 640#32
  ![v341.toNat, 640]
def k0_off17 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let v347 : Index := Scalar.indexCast v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_13 : BitVec 32 := 1024#32
  let v27 : BitVec 32 := Scalar.muli v18 c1024_i32_13
  let c640_i32_240 : BitVec 32 := 640#32
  let v346 : BitVec 32 := Scalar.addi v27 c640_i32_240
  let v348 : Index := Scalar.indexCast v346
  ![v347.toNat, v348.toNat]
def k0_off18 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v24 : BitVec 32 := Scalar.muli v5 c1024_i32
  let c640_i32_249 : BitVec 32 := 640#32
  ![v24.toNat, 640]
def k0_dev16 (d0 : Dev nD) : Nat :=
  let c0_i32_244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_243 : BitVec 32 := 8#32
  let v350 : BitVec 32 := Scalar.muli v2 c8_i32_243
  let v351 : BitVec 32 := Scalar.addi c0_i32_244 v350
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_245 : BitVec 32 := 4#32
  let v352 : BitVec 32 := Scalar.muli v20 c4_i32_245
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v354 : BitVec 32 := Scalar.muli v8 c1_i32_246
  let v355 : BitVec 32 := Scalar.addi v353 v354
  v355.toNat
def k0_dev17 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v362 : BitVec 32 := Scalar.muli v2 c8_i32_252
  let v363 : BitVec 32 := Scalar.addi c0_i32_253 v362
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_254 : BitVec 32 := 4#32
  let v364 : BitVec 32 := Scalar.muli v5 c4_i32_254
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_255 : BitVec 32 := 1#32
  let v366 : BitVec 32 := Scalar.muli v23 c1_i32_255
  let v367 : BitVec 32 := Scalar.addi v365 v366
  v367.toNat
def k0_off19 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v385 : Index := Scalar.indexCast v26
  let c384_269 : Index := 384#32
  ![v385.toNat, 384]
def k0_off20 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let c384_i32_277 : BitVec 32 := 384#32
  ![v26.toNat, 384]
def k0_dev18 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v394 : BitVec 32 := Scalar.muli v2 c8_i32_273
  let v395 : BitVec 32 := Scalar.addi c0_i32_274 v394
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_275 : BitVec 32 := 4#32
  let v396 : BitVec 32 := Scalar.muli v5 c4_i32_275
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_276 : BitVec 32 := 1#32
  let v398 : BitVec 32 := Scalar.muli v23 c1_i32_276
  let v399 : BitVec 32 := Scalar.addi v397 v398
  v399.toNat
def k0_off21 (d0 : Dev nD) (c128_i32_297 : BitVec 32) : Fin 2 → Nat :=
  let c0_298 : Index := 0#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_14 v18
  let c1024_i32_15 : BitVec 32 := 1024#32
  let v29 : BitVec 32 := Scalar.muli v28 c1024_i32_15
  let v428 : BitVec 32 := Scalar.addi v29 c128_i32_297
  let v429 : Index := Scalar.indexCast v428
  ![0, v429.toNat]
def k0_off22 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v442 : Index := Scalar.indexCast v26
  let c640_310 : Index := 640#32
  ![v442.toNat, 640]
def k0_off23 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let v448 : Index := Scalar.indexCast v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_13 : BitVec 32 := 1024#32
  let v27 : BitVec 32 := Scalar.muli v18 c1024_i32_13
  let c640_i32_311 : BitVec 32 := 640#32
  let v447 : BitVec 32 := Scalar.addi v27 c640_i32_311
  let v449 : Index := Scalar.indexCast v447
  ![v448.toNat, v449.toNat]
def k0_off24 (d0 : Dev nD) : Fin 2 → Nat :=
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c1024_i32_12 : BitVec 32 := 1024#32
  let v26 : BitVec 32 := Scalar.muli v25 c1024_i32_12
  let c640_i32_318 : BitVec 32 := 640#32
  ![v26.toNat, 640]
def k0_dev19 (d0 : Dev nD) : Nat :=
  let c0_i32_315 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_314 : BitVec 32 := 8#32
  let v451 : BitVec 32 := Scalar.muli v2 c8_i32_314
  let v452 : BitVec 32 := Scalar.addi c0_i32_315 v451
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_316 : BitVec 32 := 4#32
  let v453 : BitVec 32 := Scalar.muli v5 c4_i32_316
  let v454 : BitVec 32 := Scalar.addi v452 v453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_317 : BitVec 32 := 1#32
  let v455 : BitVec 32 := Scalar.muli v23 c1_i32_317
  let v456 : BitVec 32 := Scalar.addi v454 v455
  v456.toNat
def k0_off25 (d0 : Dev nD) : Fin 2 → Nat :=
  let c0_359 : Index := 0#32
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_14 v18
  let c1024_i32_15 : BitVec 32 := 1024#32
  let v29 : BitVec 32 := Scalar.muli v28 c1024_i32_15
  let c640_i32_358 : BitVec 32 := 640#32
  let v510 : BitVec 32 := Scalar.addi v29 c640_i32_358
  let v511 : Index := Scalar.indexCast v510
  ![0, v511.toNat]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
# The mesh and the windows

Sixteen devices at the places (x, y, z) of a 2 × 2 × 4 mesh, numbered row-major. Each device exchanges blocks with three
neighbours: the one across x, the one across y, and the one in the same pair along z. The body computes the neighbours'
numbers and its windows' offsets from the device's own number; this module says which they are.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Kit
public import Idealize.ShloMosaic.Lib.Tactic

@[expose] public section

noncomputable section

namespace Cert.GradProof

open Cert.KernelIdeal Cert.KernelIdeal.Gen
open Idealize.ShloMosaic
open Idealize.ShloMosaic.TcCoe
open Idealize.SL.Sem

/-! ## Places -/

/-- The device's place along y. -/
def yc (c : Dev nD) : ℕ := (c.val / 4) % 2
/-- The device's place within its pair along z. -/
def zc (c : Dev nD) : ℕ := c.val % 2
/-- The device's place along x. -/
def xc (c : Dev nD) : ℕ := c.val / 8

theorem yc_lt (c : Dev nD) : yc c < 2 := Nat.mod_lt _ (by decide)
theorem zc_lt (c : Dev nD) : zc c < 2 := Nat.mod_lt _ (by decide)

set_option backward.proofsInPublic true in
/-- The neighbour along an axis: 0 across x, 1 across y, 2 the other of the pair along z. -/
def nb (a : Fin 3) (c : Dev nD) : Dev nD := match a with
  | 0 => ⟨(c.val + 8) % 16, Nat.mod_lt _ (by decide)⟩
  | 1 => ⟨8 * (c.val / 8) + (c.val + 4) % 8, by have h : c.val < 16 := c.isLt; show _ < 16; omega⟩
  | 2 => ⟨2 * (c.val / 2) + (c.val + 1) % 2, by have h : c.val < 16 := c.isLt; show _ < 16; omega⟩

/-- A neighbour's neighbour along the same axis is the device itself. -/
theorem nb_nb (a : Fin 3) (c : Dev nD) : nb a (nb a c) = c := by revert a c; decide
theorem nb_ne (a : Fin 3) (c : Dev nD) : nb a c ≠ c := by revert a c; decide
theorem nb_inj {a a' : Fin 3} {c : Dev nD} : nb a c = nb a' c ↔ a = a' := by revert a a' c; decide

/-- The exchange along an axis, as a permutation of the devices. -/
def nbEquiv (a : Fin 3) : Dev nD ≃ Dev nD := ⟨nb a, nb a, nb_nb a, nb_nb a⟩

theorem yc_nb0 (c : Dev nD) : yc (nb 0 c) = yc c := by revert c; decide
theorem zc_nb0 (c : Dev nD) : zc (nb 0 c) = zc c := by revert c; decide
theorem yc_nb1 (c : Dev nD) : yc (nb 1 c) = 1 - yc c := by revert c; decide
theorem zc_nb1 (c : Dev nD) : zc (nb 1 c) = zc c := by revert c; decide
theorem yc_nb2 (c : Dev nD) : yc (nb 2 c) = yc c := by revert c; decide
theorem zc_nb2 (c : Dev nD) : zc (nb 2 c) = 1 - zc c := by revert c; decide
theorem xc_nb0 (c : Dev nD) : xc (nb 0 c) = 1 - xc c := by revert c; decide
theorem xc_nb1 (c : Dev nD) : xc (nb 1 c) = xc c := by revert c; decide
theorem xc_nb2 (c : Dev nD) : xc (nb 2 c) = xc c := by revert c; decide

/-! ## The four column chunks -/

/-- The first column of chunk `k`. -/
def coff : Fin 4 → ℕ := ![0, 128, 384, 640]
/-- The width of chunk `k`. -/
def wid : Fin 4 → ℕ := ![128, 256, 256, 384]

/-! ## The devices the body addresses -/

theorem dev1 (c : Dev nD) : (⟨k0_dev1 c, k0_dev1_lt c⟩ : Dev nD) = nb 0 c := Fin.ext ((by decide +kernel : ∀ c : Dev nD, k0_dev1 c = (nb 0 c).val) c)
theorem dev2 (c : Dev nD) : (⟨k0_dev2 c, k0_dev2_lt c⟩ : Dev nD) = nb 1 c := Fin.ext ((by decide +kernel : ∀ c : Dev nD, k0_dev2 c = (nb 1 c).val) c)
theorem dev3 (c : Dev nD) : (⟨k0_dev3 c, k0_dev3_lt c⟩ : Dev nD) = nb 2 c := Fin.ext ((by decide +kernel : ∀ c : Dev nD, k0_dev3 c = (nb 2 c).val) c)
theorem dev4 (c : Dev nD) : (⟨k0_dev4 c, k0_dev4_lt c⟩ : Dev nD) = nb 0 c := Fin.ext ((by decide +kernel : ∀ c : Dev nD, k0_dev4 c = (nb 0 c).val) c)
theorem dev5 (c : Dev nD) : (⟨k0_dev5 c, k0_dev5_lt c⟩ : Dev nD) = nb 0 c := Fin.ext ((by decide +kernel : ∀ c : Dev nD, k0_dev5 c = (nb 0 c).val) c)
theorem dev6 (c : Dev nD) : (⟨k0_dev6 c, k0_dev6_lt c⟩ : Dev nD) = nb 1 c := Fin.ext ((by decide +kernel : ∀ c : Dev nD, k0_dev6 c = (nb 1 c).val) c)
theorem dev7 (c : Dev nD) : (⟨k0_dev7 c, k0_dev7_lt c⟩ : Dev nD) = nb 2 c := Fin.ext ((by decide +kernel : ∀ c : Dev nD, k0_dev7 c = (nb 2 c).val) c)
theorem dev8 (c : Dev nD) : (⟨k0_dev8 c, k0_dev8_lt c⟩ : Dev nD) = nb 0 c := Fin.ext ((by decide +kernel : ∀ c : Dev nD, k0_dev8 c = (nb 0 c).val) c)
theorem dev9 (c : Dev nD) : (⟨k0_dev9 c, k0_dev9_lt c⟩ : Dev nD) = nb 1 c := Fin.ext ((by decide +kernel : ∀ c : Dev nD, k0_dev9 c = (nb 1 c).val) c)
theorem dev10 (c : Dev nD) : (⟨k0_dev10 c, k0_dev10_lt c⟩ : Dev nD) = nb 2 c := Fin.ext ((by decide +kernel : ∀ c : Dev nD, k0_dev10 c = (nb 2 c).val) c)
theorem dev11 (c : Dev nD) : (⟨k0_dev11 c, k0_dev11_lt c⟩ : Dev nD) = nb 2 c := Fin.ext ((by decide +kernel : ∀ c : Dev nD, k0_dev11 c = (nb 2 c).val) c)
theorem dev12 (c : Dev nD) : (⟨k0_dev12 c, k0_dev12_lt c⟩ : Dev nD) = nb 0 c := Fin.ext ((by decide +kernel : ∀ c : Dev nD, k0_dev12 c = (nb 0 c).val) c)
theorem dev13 (c : Dev nD) : (⟨k0_dev13 c, k0_dev13_lt c⟩ : Dev nD) = nb 1 c := Fin.ext ((by decide +kernel : ∀ c : Dev nD, k0_dev13 c = (nb 1 c).val) c)
theorem dev14 (c : Dev nD) : (⟨k0_dev14 c, k0_dev14_lt c⟩ : Dev nD) = nb 2 c := Fin.ext ((by decide +kernel : ∀ c : Dev nD, k0_dev14 c = (nb 2 c).val) c)
theorem dev15 (c : Dev nD) : (⟨k0_dev15 c, k0_dev15_lt c⟩ : Dev nD) = nb 2 c := Fin.ext ((by decide +kernel : ∀ c : Dev nD, k0_dev15 c = (nb 2 c).val) c)
theorem dev16 (c : Dev nD) : (⟨k0_dev16 c, k0_dev16_lt c⟩ : Dev nD) = nb 1 c := Fin.ext ((by decide +kernel : ∀ c : Dev nD, k0_dev16 c = (nb 1 c).val) c)
theorem dev17 (c : Dev nD) : (⟨k0_dev17 c, k0_dev17_lt c⟩ : Dev nD) = nb 2 c := Fin.ext ((by decide +kernel : ∀ c : Dev nD, k0_dev17 c = (nb 2 c).val) c)
theorem dev18 (c : Dev nD) : (⟨k0_dev18 c, k0_dev18_lt c⟩ : Dev nD) = nb 2 c := Fin.ext ((by decide +kernel : ∀ c : Dev nD, k0_dev18 c = (nb 2 c).val) c)
theorem dev19 (c : Dev nD) : (⟨k0_dev19 c, k0_dev19_lt c⟩ : Dev nD) = nb 2 c := Fin.ext ((by decide +kernel : ∀ c : Dev nD, k0_dev19 c = (nb 2 c).val) c)

/-! ## The offsets of the body's windows -/

/-- The half of the rows a device reduces (`0`) and the other half (`1`). -/
def half (h : Fin 2) (c : Dev nD) : ℕ := match h with | 0 => yc c | 1 => 1 - yc c

theorem off1 (c : Dev nD) : k0_off1 c = ![1024 * half 0 c, coff 0] := (by decide +kernel : ∀ c : Dev nD, k0_off1 c = ![1024 * half 0 c, coff 0]) c
theorem off3 (c : Dev nD) : k0_off3 c = ![1024 * half 0 c, coff 0] := (by decide +kernel : ∀ c : Dev nD, k0_off3 c = ![1024 * half 0 c, coff 0]) c
theorem off4 (c : Dev nD) : k0_off4 c = ![1024 * half 0 c, coff 1] := (by decide +kernel : ∀ c : Dev nD, k0_off4 c = ![1024 * half 0 c, coff 1]) c
theorem off6 (c : Dev nD) : k0_off6 c = ![1024 * half 0 c, coff 1] := (by decide +kernel : ∀ c : Dev nD, k0_off6 c = ![1024 * half 0 c, coff 1]) c
theorem off10 (c : Dev nD) : k0_off10 c = ![1024 * half 0 c, coff 2] := (by decide +kernel : ∀ c : Dev nD, k0_off10 c = ![1024 * half 0 c, coff 2]) c
theorem off11 (c : Dev nD) : k0_off11 c = ![1024 * half 0 c, coff 2] := (by decide +kernel : ∀ c : Dev nD, k0_off11 c = ![1024 * half 0 c, coff 2]) c
theorem off16 (c : Dev nD) : k0_off16 c = ![1024 * half 0 c, coff 3] := (by decide +kernel : ∀ c : Dev nD, k0_off16 c = ![1024 * half 0 c, coff 3]) c
theorem off18 (c : Dev nD) : k0_off18 c = ![1024 * half 0 c, coff 3] := (by decide +kernel : ∀ c : Dev nD, k0_off18 c = ![1024 * half 0 c, coff 3]) c
theorem off7 (c : Dev nD) : k0_off7 c = ![1024 * half 1 c, coff 0] := (by decide +kernel : ∀ c : Dev nD, k0_off7 c = ![1024 * half 1 c, coff 0]) c
theorem off9 (c : Dev nD) : k0_off9 c = ![1024 * half 1 c, coff 0] := (by decide +kernel : ∀ c : Dev nD, k0_off9 c = ![1024 * half 1 c, coff 0]) c
theorem off12 (c : Dev nD) : k0_off12 c = ![1024 * half 1 c, coff 1] := (by decide +kernel : ∀ c : Dev nD, k0_off12 c = ![1024 * half 1 c, coff 1]) c
theorem off14 (c : Dev nD) : k0_off14 c = ![1024 * half 1 c, coff 1] := (by decide +kernel : ∀ c : Dev nD, k0_off14 c = ![1024 * half 1 c, coff 1]) c
theorem off19 (c : Dev nD) : k0_off19 c = ![1024 * half 1 c, coff 2] := (by decide +kernel : ∀ c : Dev nD, k0_off19 c = ![1024 * half 1 c, coff 2]) c
theorem off20 (c : Dev nD) : k0_off20 c = ![1024 * half 1 c, coff 2] := (by decide +kernel : ∀ c : Dev nD, k0_off20 c = ![1024 * half 1 c, coff 2]) c
theorem off22 (c : Dev nD) : k0_off22 c = ![1024 * half 1 c, coff 3] := (by decide +kernel : ∀ c : Dev nD, k0_off22 c = ![1024 * half 1 c, coff 3]) c
theorem off24 (c : Dev nD) : k0_off24 c = ![1024 * half 1 c, coff 3] := (by decide +kernel : ∀ c : Dev nD, k0_off24 c = ![1024 * half 1 c, coff 3]) c
theorem off2 (c : Dev nD) : k0_off2 c = ![1024 * half 0 c, 1024 * zc c + coff 0] := (by decide +kernel : ∀ c : Dev nD, k0_off2 c = ![1024 * half 0 c, 1024 * zc c + coff 0]) c
theorem off5_128 (c : Dev nD) : k0_off5 c 128#32 = ![1024 * half 0 c, 1024 * zc c + coff 1] := (by decide +kernel : ∀ c : Dev nD, k0_off5 c 128#32 = ![1024 * half 0 c, 1024 * zc c + coff 1]) c
theorem off5_384 (c : Dev nD) : k0_off5 c 384#32 = ![1024 * half 0 c, 1024 * zc c + coff 2] := (by decide +kernel : ∀ c : Dev nD, k0_off5 c 384#32 = ![1024 * half 0 c, 1024 * zc c + coff 2]) c
theorem off17 (c : Dev nD) : k0_off17 c = ![1024 * half 0 c, 1024 * zc c + coff 3] := (by decide +kernel : ∀ c : Dev nD, k0_off17 c = ![1024 * half 0 c, 1024 * zc c + coff 3]) c
theorem off8 (c : Dev nD) : k0_off8 c = ![1024 * half 1 c, 1024 * zc c + coff 0] := (by decide +kernel : ∀ c : Dev nD, k0_off8 c = ![1024 * half 1 c, 1024 * zc c + coff 0]) c
theorem off13_128 (c : Dev nD) : k0_off13 c 128#32 = ![1024 * half 1 c, 1024 * zc c + coff 1] := (by decide +kernel : ∀ c : Dev nD, k0_off13 c 128#32 = ![1024 * half 1 c, 1024 * zc c + coff 1]) c
theorem off13_384 (c : Dev nD) : k0_off13 c 384#32 = ![1024 * half 1 c, 1024 * zc c + coff 2] := (by decide +kernel : ∀ c : Dev nD, k0_off13 c 384#32 = ![1024 * half 1 c, 1024 * zc c + coff 2]) c
theorem off23 (c : Dev nD) : k0_off23 c = ![1024 * half 1 c, 1024 * zc c + coff 3] := (by decide +kernel : ∀ c : Dev nD, k0_off23 c = ![1024 * half 1 c, 1024 * zc c + coff 3]) c
theorem off15 (c : Dev nD) : k0_off15 c = ![0, 1024 * (1 - zc c) + coff 0] := (by decide +kernel : ∀ c : Dev nD, k0_off15 c = ![0, 1024 * (1 - zc c) + coff 0]) c
theorem off21_128 (c : Dev nD) : k0_off21 c 128#32 = ![0, 1024 * (1 - zc c) + coff 1] := (by decide +kernel : ∀ c : Dev nD, k0_off21 c 128#32 = ![0, 1024 * (1 - zc c) + coff 1]) c
theorem off21_384 (c : Dev nD) : k0_off21 c 384#32 = ![0, 1024 * (1 - zc c) + coff 2] := (by decide +kernel : ∀ c : Dev nD, k0_off21 c 384#32 = ![0, 1024 * (1 - zc c) + coff 2]) c
theorem off25 (c : Dev nD) : k0_off25 c = ![0, 1024 * (1 - zc c) + coff 3] := (by decide +kernel : ∀ c : Dev nD, k0_off25 c = ![0, 1024 * (1 - zc c) + coff 3]) c

end Cert.GradProof
-- ==== Proof.Blocks.lean ====
/-
# What each buffer holds

`P c` is device `c`'s partial product, one block of the result still to be summed over x. `S c` is that block summed with
the neighbour's across x. `Z c` is the column half of the result that device `c`'s z place owns, both row blocks: its own
and the one its neighbour across y summed. `Out c` is the whole result: its own column half and its z neighbour's.
-/
module

public import proofs.«01_k».proof.Proof.Mesh

@[expose] public section

noncomputable section

namespace Cert.GradProof

open Cert.KernelIdeal Cert.KernelIdeal.Gen
open Idealize.ShloMosaic
open Idealize.ShloMosaic.TcCoe
open Idealize.SL.Sem

/-! ## Windows as sets of indices -/

/-- The indices of the window at `off` of sizes `size`. -/
def win (s : Shape) (off size : Fin s.rank → ℕ) : Finset s.Idx :=
  Finset.univ.filter fun i => ∀ a, off a ≤ (i a).val ∧ (i a).val < off a + size a

theorem mem_win {s : Shape} {off size : Fin s.rank → ℕ} {i : s.Idx} :
    i ∈ win s off size ↔ ∀ a, off a ≤ (i a).val ∧ (i a).val < off a + size a := by simp [win]

/-- The elements of a unit-stride rectangle are its window. -/
theorem unit_set {s : Shape} {off size : Fin s.rank → ℕ} (inb : ∀ a, off a + size a ≤ s.size a) :
    (Rect.unit off size inb).set = win s off size := by
  ext i
  rw [LoadRect.mem_set, mem_win]
  refine forall_congr' fun a => ?_
  show (∃ j < size a, (i a).val = off a + 1 * j) ↔ _
  constructor
  · rintro ⟨j, hj, h⟩; omega
  · rintro ⟨h1, h2⟩; exact ⟨(i a).val - off a, by omega, by omega⟩

/-- The elements of a buffer reached through a unit-stride rectangle are its window. -/
theorem access_set (b : Ref sig .tc) {off size : Fin b.ty.shape.rank → ℕ} (inb : ∀ a, off a + size a ≤ b.ty.shape.size a) :
    ((Memref.whole b).access (Rect.unit off size inb) : View sig .tc _ _ _).set = win b.ty.shape off size := by
  rw [View.set_slice_whole, unit_set]

variable {F : FTy → Type}

/-- A write through a unit-stride rectangle of a buffer leaves, on its window, the contents `g` whose values at the
    rectangle's places are the payload's. -/
theorem write_win (b : Ref sig .tc) {off size : Fin b.ty.shape.rank → ℕ} (inb : ∀ a, off a + size a ≤ b.ty.shape.size a)
    (f g : b.ty.Contents (Elt F)) (w : (Rect.unit off size inb).shape.Idx → Elt F b.ty.elt)
    (h : ∀ x, w x = g ((Rect.unit off size inb).emb x)) :
    ∀ i ∈ win b.ty.shape off size, ((Memref.whole b).access (Rect.unit off size inb) : View sig .tc _ _ _).write (Elt F) f w Finset.univ i = g i := by
  intro i hi
  rw [← unit_set inb, ← Rect.map_emb_univ] at hi
  obtain ⟨x, -, rfl⟩ := Finset.mem_map.mp hi
  have := View.write_emb_of_mem (v := ((Memref.whole b).access (Rect.unit off size inb) : View sig .tc _ _ _)) (Val := Elt F) f w
    (M := Finset.univ) (x := x) (Finset.mem_univ _)
  exact this.trans (h x)

/-! ## Contents -/

variable [FloatOps F]

abbrev CP : Type := S1024x1024.Idx → Elt F .bf16

/-- The place of row `r`, column `q` of a two-axis array. -/
def ix {n m : ℕ} (r q : ℕ) (hr : r < n) (hq : q < m) : (⟨2, ![n, m]⟩ : Shape).Idx := fun a => match a with
  | 0 => ⟨r, hr⟩ | 1 => ⟨q, hq⟩

/-- Two places of a two-axis array of equal coordinates are equal. -/
theorem ix_ext {n m : ℕ} {i j : (⟨2, ![n, m]⟩ : Shape).Idx} (h0 : (i 0).val = (j 0).val) (h1 : (i 1).val = (j 1).val) : i = j := by
  funext a; fin_cases a
  · exact Fin.ext h0
  · exact Fin.ext h1

/-- A place's row within its block of 1024 rows, and its column. -/
def inRow (i : S2048x1024.Idx) : S1024x1024.Idx := ix ((i 0).val % 1024) (i 1).val (Nat.mod_lt _ (by decide)) (i 1).isLt
/-- A place's row, and its column within its block of 1024 columns. -/
def inCol (i : S2048x2048.Idx) : S2048x1024.Idx := ix (i 0).val ((i 1).val % 1024) (i 0).isLt (Nat.mod_lt _ (by decide))

section Values
variable (P : Dev nD → CP (F := F))

/-- The device's block summed over x. -/
def S (c : Dev nD) : CP (F := F) := fun i => FloatOps.addf (F := F) (φ := .bf16) (P c i) (P (nb 0 c) i)
/-- The device's column half of the result. -/
def Z (c : Dev nD) : S2048x1024.Idx → Elt F .bf16 := fun i => if (i 0).val / 1024 = yc c then S P c (inRow i) else S P (nb 1 c) (inRow i)
/-- The whole result, widened. -/
def Out (c : Dev nD) : S2048x2048.Idx → Elt F .f32 := fun i =>
  FloatOps.extf (F := F) (φ := .bf16) .f32 bitsLt_bf16_f32 (if (i 1).val / 1024 = zc c then Z P c (inCol i) else Z P (nb 2 c) (inCol i))

theorem Z_half0 (c : Dev nD) (i : S2048x1024.Idx) (j : S1024x1024.Idx) (h0 : (i 0).val = 1024 * half 0 c + (j 0).val) (h1 : (i 1).val = (j 1).val) :
    Z P c i = S P c j := by
  have hj : (j 0).val < 1024 := (j 0).isLt
  unfold Z
  rw [if_pos (by rw [h0]; show _ = yc c; unfold half; simp only; omega)]
  congr 1
  refine ix_ext ?_ ?_
  · show (i 0).val % 1024 = _; omega
  · exact h1

theorem Z_half1 (c : Dev nD) (i : S2048x1024.Idx) (j : S1024x1024.Idx) (h0 : (i 0).val = 1024 * half 1 c + (j 0).val) (h1 : (i 1).val = (j 1).val) :
    Z P c i = S P (nb 1 c) j := by
  have hj : (j 0).val < 1024 := (j 0).isLt
  have hy := yc_lt c
  unfold Z
  rw [if_neg (by rw [h0]; show ¬ _ = yc c; unfold half; simp only; omega)]
  congr 1
  refine ix_ext ?_ ?_
  · show (i 0).val % 1024 = _; omega
  · exact h1

theorem Out_own (c : Dev nD) (i : S2048x2048.Idx) (j : S2048x1024.Idx) (h0 : (i 0).val = (j 0).val) (h1 : (i 1).val = 1024 * zc c + (j 1).val) :
    Out P c i = FloatOps.extf (F := F) (φ := .bf16) .f32 bitsLt_bf16_f32 (Z P c j) := by
  have hj : (j 1).val < 1024 := (j 1).isLt
  unfold Out
  rw [if_pos (by omega)]
  congr 2
  refine ix_ext ?_ ?_
  · exact h0
  · show (i 1).val % 1024 = _; omega

theorem Out_oth (c : Dev nD) (i : S2048x2048.Idx) (j : S2048x1024.Idx) (h0 : (i 0).val = (j 0).val) (h1 : (i 1).val = 1024 * (1 - zc c) + (j 1).val) :
    Out P c i = FloatOps.extf (F := F) (φ := .bf16) .f32 bitsLt_bf16_f32 (Z P (nb 2 c) j) := by
  have hj : (j 1).val < 1024 := (j 1).isLt
  have hz := zc_lt c
  unfold Out
  rw [if_neg (by omega)]
  congr 2
  refine ix_ext ?_ ?_
  · exact h0
  · show (i 1).val % 1024 = _; omega

end Values

end Cert.GradProof
-- ==== Proof.Schedule.lean ====
/-
# Who pays which counter, with what

Every device has 25 counters the kernel uses: its barrier, and for each axis `a`, each side `b` (0 sending, 1 receiving)
and each chunk `k` one transfer counter. Each is used for one round. The barrier's round is three signals, one from each
neighbour; a signal hands over the signaller's landing places along that axis. A sending counter's round gives back the
share of the source the transfer read; a receiving counter's round gives the landing place holding what was sent. Along z
each chunk is two transfers, one per row block, on the same counters.
-/
module

public import proofs.«01_k».proof.Proof.Blocks
public import Idealize.ShloMosaic.Lib.Rounds

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev D : Type := Fin 3
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The counters -/

/-- The barrier semaphore. -/
abbrev barS : Sem sig := (SemArray.scalar (sig.barrier 0 rfl) : Sems sig S_).sem

/-- The transfer semaphore of axis `a`, side `b`, chunk `k`. -/
def dsem (a : Fin 3) (b : Fin 2) (k : Fin 4) : DmaSem sig := ⟨2 + 8 * a.val + 4 * b.val + k.val, by show _ < 26; omega⟩

def axisOf (q : DmaSem sig) : Fin 3 := ⟨((q.val - 2) / 8) % 3, Nat.mod_lt _ (by decide)⟩
def sideOf (q : DmaSem sig) : Fin 2 := ⟨((q.val - 2) / 4) % 2, Nat.mod_lt _ (by decide)⟩
def chunkOf (q : DmaSem sig) : Fin 4 := ⟨(q.val - 2) % 4, Nat.mod_lt _ (by decide)⟩

theorem axisOf_dsem (a b k) : axisOf (dsem a b k) = a := by revert a b k; decide
theorem sideOf_dsem (a b k) : sideOf (dsem a b k) = b := by revert a b k; decide
theorem chunkOf_dsem (a b k) : chunkOf (dsem a b k) = k := by revert a b k; decide
theorem two_le_dsem (a b k) : ¬ (dsem a b k).val < 2 := by revert a b k; decide
theorem dsem_inj {a b k a' b' k'} (h : dsem a b k = dsem a' b' k') : a = a' ∧ b = b' ∧ k = k' :=
  ⟨by rw [← axisOf_dsem a b k, h, axisOf_dsem], by rw [← sideOf_dsem a b k, h, sideOf_dsem], by rw [← chunkOf_dsem a b k, h, chunkOf_dsem]⟩

abbrev barCell (c : Dev nD) : GSem nD τ sig := ((c : Thread nD τ), .reg barS)
abbrev cell (c : Dev nD) (a : Fin 3) (b : Fin 2) (k : Fin 4) : GSem nD τ sig := ((c : Thread nD τ), .dma (dsem a b k))

/-- What one transfer of chunk `k` counts. -/
def N (k : Fin 4) : ℕ := RefSig.tileCredit ⟨2, ![1024, wid k]⟩ .bf16
theorem N_pos (k : Fin 4) : 0 < N k := RefSig.tileCredit_pos _ _ (by revert k; decide)

/-! ## The places -/

/-- The columns of chunk `k`, in a device's own block. -/
def cw (k : Fin 4) : Finset S1024x1024.Idx := win S1024x1024 ![0, coff k] ![1024, wid k]
/-- Row block `h` of chunk `k`, counted from device `c`'s own. -/
def hw (c : Dev nD) (h : Fin 2) (k : Fin 4) : Finset S2048x1024.Idx := win S2048x1024 ![1024 * half h c, coff k] ![1024, wid k]

/-- A row block seen from the z neighbour is the same rows. -/
theorem hw_nb2 (c : Dev nD) (h : Fin 2) (k : Fin 4) : hw (nb 2 c) h k = hw c h k := by
  unfold hw half; fin_cases h <;> simp [yc_nb2]

/-- A window of a device's copy of a buffer, at share `q`, holding `f` there. -/
abbrev at_ (c : Dev nD) (b : Ref sig .tc) (W : Finset b.ty.shape.Idx) (q : PosShare TreeShare) (f : b.ty.Contents (Elt F)) : sProp 𝕄 :=
  ((c : Thread nD τ).loc b) ↦[W]{q} f

section Sched
variable (P : Dev nD → CP (F := F))

/-- Device `n`'s landing places for chunk `k` along axis `a`. -/
def land (n : Dev nD) (a : Fin 3) (k : Fin 4) : sProp 𝕄 := match a with
  | 0 => iprop(∃ f, at_ (F := F) n cc0_scratch0 (cw k) fullShare f)
  | 1 => iprop(∃ f, at_ (F := F) n cc0_scratch1 (cw k) fullShare f)
  | 2 => iprop((∃ f, at_ (F := F) n cc0_scratch3 (hw n 0 k) fullShare f) ∗ ∃ f, at_ (F := F) n cc0_scratch3 (hw n 1 k) fullShare f)

/-- A statement for each of the four chunks. -/
def four (f : Fin 4 → sProp 𝕄) : sProp 𝕄 := iprop(f 0 ∗ f 1 ∗ f 2 ∗ f 3)

/-- What a device's signal along axis `a` gives: its landing places, and that its receiving counters are open. -/
def barPay (c : Dev nD) (a : Fin 3) : sProp 𝕄 := four fun k => iprop(land (F := F) (nb a c) a k ∗ reached ER (cell (nb a c) a 1 k) 0)

/-- What a transfer counter's duty `d` gives. -/
def pay (c : Dev nD) (a : Fin 3) (b : Fin 2) (k : Fin 4) (d : D) : sProp 𝕄 := match a, b with
  | 0, 0 => at_ c cc0_stg0_0 (cw k) fullShare.left (P c)
  | 0, 1 => at_ c cc0_scratch0 (cw k) fullShare (P (nb 0 c))
  | 1, 0 => at_ c cc0_scratch2 (hw c 0 k) fullShare.left (Z P c)
  | 1, 1 => at_ c cc0_scratch1 (cw k) fullShare (S P (nb 1 c))
  | 2, 0 => if d = 0 then at_ c cc0_scratch2 (hw c 0 k) fullShare.right (Z P c) else at_ c cc0_scratch2 (hw c 1 k) fullShare (Z P c)
  | 2, 1 => if d = 0 then at_ c cc0_scratch3 (hw c 0 k) fullShare (Z P (nb 2 c)) else at_ c cc0_scratch3 (hw c 1 k) fullShare (Z P (nb 2 c))

instance land_storable (n a k) : BI.Storable (upEmb : UEmb _ 𝕄) (land (F := F) n a k) := by
  unfold land; split <;> infer_instance
instance four_storable (f : Fin 4 → sProp 𝕄) [∀ k, BI.Storable (upEmb : UEmb _ 𝕄) (f k)] : BI.Storable (upEmb : UEmb _ 𝕄) (four f) := by
  unfold four; infer_instance
instance pay_storable (c a b k d) : BI.Storable (upEmb : UEmb _ 𝕄) (pay P c a b k d) := by
  unfold pay; split <;> (try split) <;> infer_instance
instance barPay_storable (c a) : BI.Storable (upEmb : UEmb _ 𝕄) (barPay (F := F) c a) := by
  unfold barPay; infer_instance

/-- The duties on a transfer counter of axis `a`. -/
def dutiesOf (a : Fin 3) : Finset D := if a = 2 then {0, 1} else {0}

def Rd : Rounds.Schedule (GSem nD τ sig) D 𝕄 where
  duties g r := if r = 0 ∧ g.1.2 = .tc then (match g.2 with
    | .reg _ => Finset.univ
    | .dma q => if q.val < 2 then ∅ else dutiesOf (axisOf q)) else ∅
  unitless _ := False
  amount g _ _ := match g.2 with | .reg _ => 1 | .dma q => N (chunkOf q)
  payload g _ d := match g.2 with
    | .reg _ => barPay g.1.1 d
    | .dma q => pay P g.1.1 (axisOf q) (sideOf q) (chunkOf q) d
  amount_pos g _ _ _ := by
    rcases g with ⟨t, s | q⟩
    · exact Nat.one_pos
    · exact N_pos _

instance Rd_storable (g : GSem nD τ sig) (r : ℕ) (d : D) : BI.Storable (upEmb : UEmb _ 𝕄) ((Rd P).payload g r d) := by
  rcases g with ⟨t, s | q⟩
  · show BI.Storable upEmb (barPay t.1 d); infer_instance
  · show BI.Storable upEmb (pay P t.1 (axisOf q) (sideOf q) (chunkOf q) d); infer_instance

theorem duties_bar (c : Dev nD) : (Rd P).duties (barCell c) 0 = Finset.univ := by dsimp only [Rd]; exact if_pos ⟨rfl, rfl⟩
theorem duties_cell (c : Dev nD) (a b k) : (Rd P).duties (cell c a b k) 0 = dutiesOf a := by
  dsimp only [Rd]; rw [if_pos ⟨rfl, rfl⟩, if_neg (two_le_dsem a b k), axisOf_dsem]
theorem duties_later (g : GSem nD τ sig) : ∀ r, 1 ≤ r → (Rd P).duties g r = ∅ :=
  fun r hr => by dsimp only [Rd]; exact if_neg fun h => by omega
theorem amount_bar (c : Dev nD) (d : D) : (Rd P).amount (barCell c) 0 d = 1 := rfl
theorem amount_cell (c : Dev nD) (a b k) (d : D) : (Rd P).amount (cell c a b k) 0 d = N k := by
  dsimp only [Rd]; rw [chunkOf_dsem]
theorem expect_bar (c : Dev nD) : (Rd P).expect (barCell c) 0 = 3 := by
  unfold Schedule.expect Schedule.amountOf; rw [duties_bar, Finset.sum_congr rfl fun d _ => amount_bar P c d]; rfl
theorem expect_one (c : Dev nD) (a b k) (ha : a ≠ 2) : (Rd P).expect (cell c a b k) 0 = N k := by
  unfold Schedule.expect Schedule.amountOf; rw [duties_cell, dutiesOf, if_neg ha, Finset.sum_singleton, amount_cell]
theorem expect_two (c : Dev nD) (b k) : (Rd P).expect (cell c 2 b k) 0 = N k + N k := by
  unfold Schedule.expect Schedule.amountOf; rw [duties_cell, dutiesOf, if_pos rfl, Finset.sum_pair (by decide), amount_cell, amount_cell]
theorem payload_bar (c : Dev nD) (d : D) : (Rd P).payload (barCell c) 0 d = barPay c d := rfl
theorem payload_cell (c : Dev nD) (a b k) (d : D) : (Rd P).payload (cell c a b k) 0 d = pay P c a b k d := by
  dsimp only [Rd]; rw [axisOf_dsem, sideOf_dsem, chunkOf_dsem]

/-- All of the barrier's round, one neighbour at a time. -/
theorem rest_bar (c : Dev nD) : bigSep ((Rd P).duties (barCell c) 0 \ ∅) (fun d => (Rd P).payload (barCell c) 0 d)
    = iprop(barPay (F := F) c 0 ∗ barPay (F := F) c 1 ∗ barPay (F := F) c 2) := by
  rw [Finset.sdiff_empty, duties_bar, bigSep_univ_eq_bigSepL [(0 : Fin 3), 1, 2] (by decide) (by decide)]
  simp only [bigSepL_cons, bigSepL_nil, payload_bar]
  exact (congrArg _ (congrArg _ (sep_emp_eq _)))
theorem rest_one (c : Dev nD) (a b k) (ha : a ≠ 2) : bigSep ((Rd P).duties (cell c a b k) 0 \ ∅) (fun d => (Rd P).payload (cell c a b k) 0 d)
    = pay P c a b k 0 := by
  rw [Finset.sdiff_empty, duties_cell, dutiesOf, if_neg ha, bigSep_singleton, payload_cell]

end Sched

end Cert.GradProof
-- ==== Proof.Base.lean ====
/-
# One operation of the body at a time

What a device owes, the order in which it may wait, and for each kind of operation of the body what it takes and what it
leaves: signalling a neighbour, waiting at the barrier, sending a chunk along an axis, waiting for a transfer, loading and
storing a window.
-/
module

public import proofs.«01_k».proof.Proof.Schedule

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## What is owed, and the order of waits -/

/-- What device `c` owes when the sends `l` are still to come: each neighbour's receiving counter one transfer. -/
def owing (c : Dev nD) : List (Fin 3 × Fin 4) → CellTallies nD τ sig Unit
  | [] => 0
  | p :: l => owing c l + tallyAt (cell (nb p.1 c) p.1 1 p.2) () (N p.2)

/-- The device owes the sends `l`, whatever it has waited for. -/
def Ow (c : Dev nD) (l : List (Fin 3 × Fin 4)) : sProp 𝕄 := iprop(∃ W, owes (c : Thread nD τ) (owing c l) W)

/-- The level of the receiving counter of axis `a`, chunk `k`: later in the body, higher. -/
def lvl (a : Fin 3) (k : Fin 4) : ℕ := match a with
  | 0 => ![2, 3, 5, 8] k | 1 => ![4, 6, 9, 11] k | 2 => ![7, 10, 12, 13] k
/-- The level of any transfer counter. -/
def lvlOf (a : Fin 3) (b : Fin 2) (k : Fin 4) : ℕ := if b = 0 then 0 else lvl a k

def L (g : GSem nD τ sig) : Finset Unit := if g.1.2 = .tc then {()} else ∅
def lv (g : GSem nD τ sig) (_ : Unit) : ℕ := match g.2 with
  | .reg _ => 1
  | .dma q => if q.val < 2 then 0 else lvlOf (axisOf q) (sideOf q) (chunkOf q)
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (a b k) : lv (cell c a b k) () = lvlOf a b k := by
  dsimp only [lv]; rw [if_neg (two_le_dsem a b k), axisOf_dsem, sideOf_dsem, chunkOf_dsem]

theorem owing_pos {c : Dev nD} {l : List (Fin 3 × Fin 4)} {g : GSem nD τ sig} {u : Unit} (h : 0 < owing c l g u) :
    ∃ p ∈ l, g = cell (nb p.1 c) p.1 1 p.2 := by
  induction l with
  | nil => exact absurd h (Nat.lt_irrefl 0)
  | cons p l ih =>
    rw [owing, Pi.add_apply, Finsupp.add_apply, tallyAt_apply] at h
    by_cases hp : g = cell (nb p.1 c) p.1 1 p.2 ∧ u = ()
    · exact ⟨p, List.mem_cons_self, hp.1⟩
    · rw [if_neg hp] at h
      obtain ⟨q, hq, e⟩ := ih h
      exact ⟨q, List.mem_cons_of_mem _ hq, e⟩

/-- A wait is in order when everything still owed is at a higher level. -/
theorem mayWait (c : Dev nD) (sm : SemLoc sig) (n : ℕ) (hn : lv ((c : Thread nD τ), sm) () ≤ n) (l : List (Fin 3 × Fin 4))
    (h : ∀ p ∈ l, n < lvl p.1 p.2) : (levAts L lv : sProp 𝕄) ⊢ MayWait (c : Thread nD τ) sm () (owing c l) :=
  MayOwe.of_cut (L := L) (lev := lv) n (fun p hp => by rw [Finset.mem_singleton.mp hp, L_tc]; exact Finset.mem_singleton_self _)
    (fun g u hg => by obtain ⟨p, -, rfl⟩ := owing_pos hg; rw [L_tc]; exact Finset.mem_singleton_self _)
    (fun p hp => by rw [Finset.mem_singleton.mp hp]; exact hn)
    (fun g u hg => by obtain ⟨p, hp, rfl⟩ := owing_pos hg; rw [lv_cell]; exact h p hp)

section Knows
variable (P : Dev nD → CP (F := F)) (K : GSem nD τ sig → ℕ)

/-! ## What a device knows throughout -/

/-- Every counter's invariant: the barriers', and the transfer counters'. -/
def allInv : sProp 𝕄 := iprop((bigSep Finset.univ fun c : Dev nD => cellInv ER (Rd P) (K (barCell c)) (barCell c))
  ∗ bigSep Finset.univ fun x : Dev nD × Fin 3 × Fin 2 × Fin 4 => cellInv ER (Rd P) (K (cell x.1 x.2.1 x.2.2.1 x.2.2.2)) (cell x.1 x.2.1 x.2.2.1 x.2.2.2))
instance allInv_persistent : BI.Persistent (allInv P K) := by unfold allInv; infer_instance
theorem inv_bar (c : Dev nD) : allInv P K ⊢ cellInv ER (Rd P) (K (barCell c)) (barCell c) := by
  unfold allInv
  iintro ⟨#H1, #H2⟩
  have h : (bigSep Finset.univ fun c : Dev nD => cellInv ER (Rd P) (K (barCell c)) (barCell c)) ⊢ cellInv ER (Rd P) (K (barCell c)) (barCell c) :=
    bigSep_elim (Finset.mem_univ c)
  iapply h; iexact H1
theorem inv_cell (c : Dev nD) (a b k) : allInv P K ⊢ cellInv ER (Rd P) (K (cell c a b k)) (cell c a b k) := by
  unfold allInv
  iintro ⟨#H1, #H2⟩
  have h : (bigSep Finset.univ fun x : Dev nD × Fin 3 × Fin 2 × Fin 4 => cellInv ER (Rd P) (K (cell x.1 x.2.1 x.2.2.1 x.2.2.2)) (cell x.1 x.2.1 x.2.2.1 x.2.2.2))
      ⊢ cellInv ER (Rd P) (K (cell c a b k)) (cell c a b k) :=
    bigSep_elim (Φ := fun x : Dev nD × Fin 3 × Fin 2 × Fin 4 => cellInv ER (Rd P) (K (cell x.1 x.2.1 x.2.2.1 x.2.2.2)) (cell x.1 x.2.1 x.2.2.1 x.2.2.2)) (Finset.mem_univ (c, a, b, k))
  iapply h; iexact H2

/-- The device's own transfer counters are open. -/
def Rch (c : Dev nD) : sProp 𝕄 := bigSep Finset.univ fun x : Fin 3 × Fin 2 × Fin 4 => reached ER (cell c x.1 x.2.1 x.2.2) 0
/-- Its neighbours' receiving counters are open. -/
def RchN (c : Dev nD) : sProp 𝕄 := bigSep Finset.univ fun x : Fin 3 × Fin 4 => reached ER (cell (nb x.1 c) x.1 1 x.2) 0
instance Rch_persistent (c : Dev nD) : BI.Persistent (Rch (F := F) c) := by unfold Rch; infer_instance
instance RchN_persistent (c : Dev nD) : BI.Persistent (RchN (F := F) c) := by unfold RchN; infer_instance
theorem rch (c : Dev nD) (a b k) : Rch (F := F) c ⊢ reached ER (cell c a b k) 0 :=
  bigSep_elim (Φ := fun x : Fin 3 × Fin 2 × Fin 4 => reached ER (cell c x.1 x.2.1 x.2.2) 0) (Finset.mem_univ (a, b, k))
theorem rchN (c : Dev nD) (a k) : RchN (F := F) c ⊢ reached ER (cell (nb a c) a 1 k) 0 :=
  bigSep_elim (Φ := fun x : Fin 3 × Fin 4 => reached ER (cell (nb x.1 c) x.1 1 x.2) 0) (Finset.mem_univ (a, k))

/-- What a device knows once it has passed the barrier. -/
def Per (c : Dev nD) : sProp 𝕄 := iprop(allInv P K ∗ Rch c ∗ RchN c ∗ levAts L lv)
instance Per_persistent (c : Dev nD) : BI.Persistent (Per P K c) := by unfold Per; infer_instance

/-- The right to pay duty `d` of a send, on both of its counters. -/
def Tok (c : Dev nD) (a : Fin 3) (k : Fin 4) (d : D) : sProp 𝕄 :=
  iprop(dutyTok ER (cell c a 0 k) 0 d ∗ dutyTok ER (cell (nb a c) a 1 k) 0 d)
/-- The right to wait for one transfer on a counter. -/
def Cr (c : Dev nD) (a : Fin 3) (b : Fin 2) (k : Fin 4) : sProp 𝕄 := cred (tallyAt (cell c a b k) () (N k))
/-- The device's position before a counter's only round. -/
def At (c : Dev nD) (a : Fin 3) (b : Fin 2) (k : Fin 4) : sProp 𝕄 := atPos ER (cell c a b k) 0 ∅ 0

end Knows

end Cert.GradProof
-- ==== Proof.Steps.lean ====
/-
# One operation of the body at a time

What a device owes, the order in which it may wait, and for each kind of operation of the body what it takes and what it
leaves: signalling a neighbour, waiting at the barrier, sending a chunk along an axis, waiting for a transfer, loading and
storing a window.
-/
module

public import proofs.«01_k».proof.Proof.Base

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The barrier -/

/-- A separating conjunction over two disjoint sets is the two side by side. -/
theorem bigSep_union2 {I : Type} [DecidableEq I] {s t : Finset I} (h : Disjoint s t) {Φ : I → sProp 𝕄} :
    bigSep (s ∪ t) Φ = iprop(bigSep s Φ ∗ bigSep t Φ) := bigSep_union h
/-- A separating conjunction over two indices. -/
theorem bigSep_two {I : Type} [DecidableEq I] {i j : I} (h : i ≠ j) {Φ : I → sProp 𝕄} :
    bigSep {i, j} Φ = iprop(Φ i ∗ Φ j) := by rw [bigSep_insert (by simpa using h), bigSep_singleton]; rfl

section Steps
variable (P : Dev nD → CP (F := F)) (K : GSem nD τ sig → ℕ)

theorem step_signal (c n : Dev nD) (a : Fin 3) (hn : n = nb a c) (k' : ℕ) (hk' : 1 = k') (O : CellTallies nD τ sig Unit)
    {α : Type} {Q : α → sProp 𝕄} {k : PUnit → Prog (TpuEff nD τ sig (Elt F) Λ₀ .tc) α} :
    iprop(allInv P K ∗ (∃ W, owes (c : Thread nD τ) (O + tallyAt (barCell (nb a c)) () 1) W) ∗ dutyTok ER (barCell (nb a c)) 0 a
        ∗ (four fun k => iprop(land (F := F) c a k ∗ reached ER (cell c a 1 k) 0)) ∗ reached ER (barCell (nb a c)) 0)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  iintro ⟨#HI, ⟨%W, HO⟩, Ht, Hp, #HR⟩ Hk
  iapply (Rounds.wp_signal 𝒱₀ ER (Rd P) (c : Thread nD τ) none (dst := (nb a c : Thread nD τ)) (κ := K (barCell (nb a c))) (d := a)
      (by rw [duties_bar]; exact Finset.mem_univ _) (amount_bar P (nb a c) a) () O rfl) $$ [HO Ht Hp]
  · isplitr; · iapply (inv_bar P K (nb a c)); iexact HI
    isplitl [HO]; · iexact HO
    isplitl [Ht]; · iexact Ht
    isplitl [Hp]
    · rw [payload_bar]; unfold barPay; rw [nb_nb]; iexact Hp
    · iexact HR
  iintro HO
  iapply Hk
  iexists W; iexact HO

theorem step_barrier (c : Dev nD) (k' : ℕ) (hk' : k' = 3) (l : List (Fin 3 × Fin 4)) (hl : ∀ p ∈ l, 1 < lvl p.1 p.2)
    {α : Type} {Q : α → sProp 𝕄} {k : PUnit → Prog (TpuEff nD τ sig (Elt F) Λ₀ .tc) α} :
    iprop(allInv P K ∗ levAts L lv ∗ cred (tallyAt (barCell c) () 3) ∗ atPos ER (barCell c) 0 ∅ 0 ∗ Ow c l)
      ⊢ iprop(((Ow c l ∗ semVal (barCell c) 0 ∗ barPay c 0 ∗ barPay c 1 ∗ barPay c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold Ow
  iintro ⟨#HI, #Hlev, Hc, Hat, ⟨%W, HO⟩⟩ Hk
  iapply (Rounds.wp_wait_rest_token 𝒱₀ ER (Rd P) (c : Thread nD τ) none (κ := K (barCell c))
      (wpE_semWait_eq 𝒱₀ (c : Thread nD τ) none Set.univ) (Set.mem_univ _) () (O := owing c l) (W := W) (R := 0) (m := 0) (T := ∅)
      (by rw [expect_bar])) $$ [Hc HO Hat]
  · isplitr; · iapply (inv_bar P K c); iexact HI
    isplitl [Hc]; · iexact Hc
    isplitl [HO]; · iexact HO
    isplitr; · iapply (mayWait c (.reg barS) 1 le_rfl l hl); iexact Hlev
    iexact Hat
  iintro ⟨HO, Hat, -, Hpay⟩
  ihave Hp := (Entails.of_eq (rest_bar P c)) $$ Hpay
  imod (Rounds.cell_close ER (Rd P) (Set.mem_univ (K (barCell c))) (fun h => h) (R := 0 + 1) (duties_later P (barCell c))) $$ [Hat] with Hz
  · isplitr; · iapply (inv_bar P K c); iexact HI
    iexact Hat
  iapply Hk
  isplitl [HO]; · iexists _; iexact HO
  isplitl [Hz]; · iexact Hz
  iexact Hp

/-! ## Transfers -/

/-- A send along axis `a` paying duty `d`: the source share goes to the device's own counter, the landing place, rewritten, to the
    neighbour's. -/
theorem step_send (c n : Dev nD) (a : Fin 3) (k : Fin 4) (d : D) (hd : d ∈ dutiesOf a) (hn : n = nb a c)
    {s : Shape} {src : Memref sig .tc .vmem s .bf16} {dst : Memref sig .tc .vmem s .bf16}
    {hsc : (dst : Memref sig (Dev.tc n : Thread nD τ).2.kind .vmem s .bf16).view.ref.isScScratch = false}
    {q q' : DmaSem sig} (hq : q = dsem a 0 k) (hq' : q' = dsem a 1 k)
    {hsrc : src.view.WordExact} {hdst : dst.view.WordExact}
    {hsem : DmaTarget.Typed .vmem (.dma q') (.remote (Dev.tc n : Thread nD τ) dst (.dma q) hsc)}
    {α : Type} {Q : α → sProp 𝕄} {kk : PUnit → Prog (TpuEff nD τ sig (Elt F) Λ₀ .tc) α} {sh : PosShare TreeShare}
    {fs : Buf (Elt F) (src.view.loc (c : Thread nD τ))} {fd : Buf (Elt F) (dst.view.loc (nb a c : Thread nD τ))}
    (hN : dst.view.amount (.dma q') = N k) (l : List (Fin 3 × Fin 4))
    (h₁ : (src.view.loc (c : Thread nD τ) ↦[src.view.set]{sh} fs) ⊢ pay P c a 0 k d)
    (h₂ : (dst.view.loc (nb a c : Thread nD τ) ↦[dst.view.set]{fullShare} (dst.view.write (Elt F) fd (src.view.read (Elt F) fs) Finset.univ)) ⊢ pay P (nb a c) a 1 k d) :
    iprop(Per P K c ∗ (src.view.loc (c : Thread nD τ) ↦[src.view.set]{sh} fs) ∗ (dst.view.loc (nb a c : Thread nD τ) ↦[dst.view.set]{fullShare} fd)
        ∗ Tok c a k d ∗ Ow c ((a, k) :: l))
      ⊢ iprop(((Cr c a 0 k ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma q) hsc) (.dma q') hsrc hdst hsem) kk) Q) := by
  subst hn hq hq'
  unfold Per Tok Ow Cr
  iintro ⟨⟨#HI, #HR, #HN, #Hlev⟩, Hs, Hd, ⟨Ht1, Ht2⟩, ⟨%W, HO⟩⟩ Hk
  iapply (Rounds.wp_send_pointsTo 𝒱₀ ER (Rd P) (c : Thread nD τ) none (κ₁ := K (cell c a 0 k)) (κ₂ := K (cell (nb a c) a 1 k))
    (r₁ := 0) (r₂ := 0) (d₁ := d) (d₂ := d) (fd := fd)
    (by rw [duties_cell]; exact hd) (by rw [duties_cell]; exact hd)
    () () (N k) hN (amount_cell P c a 0 k d) (amount_cell P (nb a c) a 1 k d) (owing c l) rfl (W := W)
    (by rw [payload_cell]; exact h₁) (by rw [payload_cell]; exact h₂)) $$ [Hs Hd HO Ht1 Ht2]
  · isplitr; · iapply (inv_cell P K c a 0 k); iexact HI
    isplitr; · iapply (inv_cell P K (nb a c) a 1 k); iexact HI
    isplitl [Hs]; · iexact Hs
    isplitl [Hd]; · iexact Hd
    isplitl [HO]; · iexact HO
    isplitl [Ht1]; · iexact Ht1
    isplitr; · iapply (rch c a 0 k); iexact HR
    isplitl [Ht2]; · iexact Ht2
    iapply (rchN c a k); iexact HN
  iintro ⟨Hc, HO⟩
  iapply Hk
  isplitl [Hc]; · iexact Hc
  iexists W; iexact HO

/-- A wait for the only transfer of a counter across x or y. -/
theorem step_wait (c : Dev nD) (a : Fin 3) (ha : a ≠ 2) (b : Fin 2) (k : Fin 4)
    {s s' : Shape} {e' : EltTy} {src : Memref sig .tc .vmem s' e'} {dst : Memref sig .tc .vmem s .bf16} {q : DmaSem sig} (hq : q = dsem a b k)
    {hsrc : src.view.WordExact} {hdst : dst.view.WordExact} {α : Type} {Q : α → sProp 𝕄} {kk : PUnit → Prog (TpuEff nD τ sig (Elt F) Λ₀ .tc) α}
    (hN : dst.view.dmaCredit = N k) (l : List (Fin 3 × Fin 4)) (hl : ∀ p ∈ l, lvlOf a b k < lvl p.1 p.2) :
    iprop(Per P K c ∗ Cr c a b k ∗ At c a b k ∗ Ow c l)
      ⊢ iprop(((pay P c a b k 0 ∗ semVal (cell c a b k) 0 ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  unfold Per Ow Cr At
  rw [← hN]
  iintro ⟨⟨#HI, -, -, #Hlev⟩, Hc, Hat, ⟨%W, HO⟩⟩ Hk
  iapply (Rounds.wp_wait_rest_token 𝒱₀ ER (Rd P) (c : Thread nD τ) none (κ := K (cell c a b k))
      (wpE_waitDma2_eq 𝒱₀ (c : Thread nD τ) none Set.univ) (Set.mem_univ _) () (O := owing c l) (W := W) (R := 0) (m := 0) (T := ∅)
      (by rw [Nat.zero_add, expect_one P c a b k ha, hN])) $$ [Hc HO Hat]
  · isplitr; · iapply (inv_cell P K c a b k); iexact HI
    isplitl [Hc]; · iexact Hc
    isplitl [HO]; · iexact HO
    isplitr; · iapply (mayWait c (.dma (dsem a b k)) _ (lv_cell c a b k).le l hl); iexact Hlev
    iexact Hat
  iintro ⟨HO, Hat, -, Hpay⟩
  ihave Hp := (Entails.of_eq (rest_one P c a b k ha)) $$ Hpay
  imod (Rounds.cell_close ER (Rd P) (Set.mem_univ (K (cell c a b k))) (fun h => h) (R := 0 + 1) (duties_later P (cell c a b k))) $$ [Hat] with Hz
  · isplitr; · iapply (inv_cell P K c a b k); iexact HI
    iexact Hat
  iapply Hk
  isplitl [Hp]; · iexact Hp
  isplitl [Hz]; · iexact Hz
  iexists _; iexact HO

/-- Between the two waits on a z counter: some of the round's duties `T` are in hand, whichever landed first. -/
def Mid (c : Dev nD) (b : Fin 2) (k : Fin 4) : sProp 𝕄 :=
  iprop(∃ T : Finset D, ⌜T ⊆ dutiesOf 2⌝ ∗ atPos ER (cell c 2 b k) 0 T (N k) ∗ bigSep T fun d => (Rd P).payload (cell c 2 b k) 0 d)

/-- The first of the two waits on a z counter. -/
theorem step_wait_z1 (c : Dev nD) (b : Fin 2) (k : Fin 4)
    {s s' : Shape} {e' : EltTy} {src : Memref sig .tc .vmem s' e'} {dst : Memref sig .tc .vmem s .bf16} {q : DmaSem sig} (hq : q = dsem 2 b k)
    {hsrc : src.view.WordExact} {hdst : dst.view.WordExact} {α : Type} {Q : α → sProp 𝕄} {kk : PUnit → Prog (TpuEff nD τ sig (Elt F) Λ₀ .tc) α}
    (hN : dst.view.dmaCredit = N k) (l : List (Fin 3 × Fin 4)) (hl : ∀ p ∈ l, lvlOf 2 b k < lvl p.1 p.2) :
    iprop(Per P K c ∗ Cr c 2 b k ∗ At c 2 b k ∗ Ow c l)
      ⊢ iprop(((Mid P c b k ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  unfold Per Ow Cr At Mid
  rw [← hN]
  iintro ⟨⟨#HI, -, -, #Hlev⟩, Hc, Hat, ⟨%W, HO⟩⟩ Hk
  iapply (Rounds.wp_wait 𝒱₀ ER (Rd P) (c : Thread nD τ) none (κ := K (cell c 2 b k))
      (wpE_waitDma2_eq 𝒱₀ (c : Thread nD τ) none Set.univ) (Set.mem_univ _) (cr := Finsupp.single () dst.view.dmaCredit) (O := owing c l) (W := W)
      {(SemLoc.dma (dsem 2 b k), ())} (R := 0) (m := 0) (T := ∅)
      (by rw [Util.total_single]) (image_single_subset _ () _)) $$ [Hc HO Hat]
  · isplitr; · iapply (inv_cell P K c 2 b k); iexact HI
    isplitl [Hc]; · iexact Hc
    isplitl [HO]; · iexact HO
    isplitr; · iapply (mayWait c (.dma (dsem 2 b k)) _ (lv_cell c 2 b k).le l hl); iexact Hlev
    iexact Hat
  iintro %T ⟨%hT, HO, Hat, Hpay⟩
  iapply Hk
  isplitl [Hat Hpay]
  · iexists T
    isplitr; · ipureintro; rw [← duties_cell P c 2 b k]; exact hT.2.1
    rw [Nat.zero_add, Finset.sdiff_empty]
    isplitl [Hat]; · iexact Hat
    iexact Hpay
  iexists _; iexact HO

/-- The second: both row blocks are in hand. -/
theorem step_wait_z2 (c : Dev nD) (b : Fin 2) (k : Fin 4)
    {s s' : Shape} {e' : EltTy} {src : Memref sig .tc .vmem s' e'} {dst : Memref sig .tc .vmem s .bf16} {q : DmaSem sig} (hq : q = dsem 2 b k)
    {hsrc : src.view.WordExact} {hdst : dst.view.WordExact} {α : Type} {Q : α → sProp 𝕄} {kk : PUnit → Prog (TpuEff nD τ sig (Elt F) Λ₀ .tc) α}
    (hN : dst.view.dmaCredit = N k) (l : List (Fin 3 × Fin 4)) (hl : ∀ p ∈ l, lvlOf 2 b k < lvl p.1 p.2) :
    iprop(Per P K c ∗ Cr c 2 b k ∗ Mid P c b k ∗ Ow c l)
      ⊢ iprop(((pay P c 2 b k 0 ∗ pay P c 2 b k 1 ∗ semVal (cell c 2 b k) 0 ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  unfold Per Ow Cr Mid
  iintro ⟨⟨#HI, -, -, #Hlev⟩, Hc, ⟨%T, %hT, Hat, HT⟩, ⟨%W, HO⟩⟩ Hk
  rw [← hN]
  iapply (Rounds.wp_wait_rest_token 𝒱₀ ER (Rd P) (c : Thread nD τ) none (κ := K (cell c 2 b k))
      (wpE_waitDma2_eq 𝒱₀ (c : Thread nD τ) none Set.univ) (Set.mem_univ _) () (O := owing c l) (W := W) (R := 0) (m := dst.view.dmaCredit) (T := T)
      (by rw [expect_two P c b k, hN])) $$ [Hc HO Hat]
  · isplitr; · iapply (inv_cell P K c 2 b k); iexact HI
    isplitl [Hc]; · iexact Hc
    isplitl [HO]; · iexact HO
    isplitr; · iapply (mayWait c (.dma (dsem 2 b k)) _ (lv_cell c 2 b k).le l hl); iexact Hlev
    iexact Hat
  iintro ⟨HO, Hat, -, Hpay⟩
  ihave Hp := (Entails.of_eq (show iprop((bigSep T fun d => (Rd P).payload (cell c 2 b k) 0 d) ∗ bigSep ((Rd P).duties (cell c 2 b k) 0 \ T) fun d => (Rd P).payload (cell c 2 b k) 0 d)
      = iprop(pay P c 2 b k 0 ∗ pay P c 2 b k 1) from by
    rw [duties_cell, ← bigSep_union2 Finset.disjoint_sdiff, Finset.union_sdiff_of_subset hT, dutiesOf, if_pos rfl, bigSep_two (by decide), payload_cell, payload_cell])) $$ [HT Hpay]
  · isplitl [HT] <;> iassumption
  icases Hp with ⟨Hp0, Hp1⟩
  imod (Rounds.cell_close ER (Rd P) (Set.mem_univ (K (cell c 2 b k))) (fun h => h) (R := 0 + 1) (duties_later P (cell c 2 b k))) $$ [Hat] with Hz
  · isplitr; · iapply (inv_cell P K c 2 b k); iexact HI
    iexact Hat
  iapply Hk
  isplitl [Hp0]; · iexact Hp0
  isplitl [Hp1]; · iexact Hp1
  isplitl [Hz]; · iexact Hz
  iexists _; iexact HO

end Steps

end Cert.GradProof
-- ==== Proof.Moves.lean ====
/-
# Sends, loads and stores at the kernel's windows

The three kinds of send with their contents — a chunk of the partial product across x, a chunk of the sum across y, a row
block of the column half along z — and loading and storing a window.
-/
module

public import proofs.«01_k».proof.Proof.Steps

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Windows

/-- The elements of a buffer's window, reached as a slice. -/
theorem slice_set (b : Ref sig .tc) {off size : Fin b.ty.shape.rank → ℕ} (inb : ∀ a, off a + size a ≤ b.ty.shape.size a)
    (hs : ∀ a, (Rect.unit off size inb).stride a = 1) :
    ((Memref.whole b).slice (Rect.unit off size inb) hs).view.set = win b.ty.shape off size := access_set b inb

/-- A window held is the window held as a slice. -/
theorem at_slice (c : Dev nD) (b : Ref sig .tc) {off size : Fin b.ty.shape.rank → ℕ} (inb : ∀ a, off a + size a ≤ b.ty.shape.size a)
    (hs : ∀ a, (Rect.unit off size inb).stride a = 1) (q : PosShare TreeShare) (f : b.ty.Contents (Elt F)) :
    (((Memref.whole b).slice (Rect.unit off size inb) hs).view.loc (c : Thread nD τ) ↦[((Memref.whole b).slice (Rect.unit off size inb) hs).view.set]{q} f : sProp 𝕄)
      = at_ c b (win b.ty.shape off size) q f := by rw [slice_set]

/-- What a transfer leaves on a window: the contents `g` whose values at the window's places are the source's. -/
theorem at_written (c : Dev nD) (b : Ref sig .tc) {off size : Fin b.ty.shape.rank → ℕ} (inb : ∀ a, off a + size a ≤ b.ty.shape.size a)
    (hs : ∀ a, (Rect.unit off size inb).stride a = 1) (f g : b.ty.Contents (Elt F)) (w : (Rect.unit off size inb).shape.Idx → Elt F b.ty.elt)
    (h : ∀ x, w x = g ((Rect.unit off size inb).emb x)) :
    (((Memref.whole b).slice (Rect.unit off size inb) hs).view.loc (c : Thread nD τ) ↦[((Memref.whole b).slice (Rect.unit off size inb) hs).view.set]{fullShare}
        (((Memref.whole b).slice (Rect.unit off size inb) hs).view.write (Elt F) f w Finset.univ) : sProp 𝕄)
      = at_ c b (win b.ty.shape off size) fullShare g := by
  rw [slice_set]
  exact pointsTo_congr (write_win b inb f g w h)

end Windows

section Moves
variable (P : Dev nD → CP (F := F)) (K : GSem nD τ sig → ℕ)

/-- A chunk of the device's partial product to its neighbour across x. -/
theorem send_x (c n : Dev nD) (k : Fin 4) (hn : n = nb 0 c) (l : List (Fin 3 × Fin 4))
    {off off' sz : Fin 2 → ℕ} {inb : ∀ a, off a + sz a ≤ S1024x1024.size a} {inb' : ∀ a, off' a + sz a ≤ S1024x1024.size a}
    (ho : off = ![0, coff k]) (ho' : off' = ![0, coff k]) (hz : sz = ![1024, wid k])
    {hs : ∀ a, (Rect.unit (s := S1024x1024) off sz inb).stride a = 1} {hs' : ∀ a, (Rect.unit (s := S1024x1024) off' sz inb').stride a = 1}
    {hsc : ((Memref.whole cc0_scratch0 : Memref sig (Dev.tc n : Thread nD τ).2.kind .vmem S1024x1024 .bf16).slice (Rect.unit (s := S1024x1024) off' sz inb') hs').view.ref.isScScratch = false}
    {q q' : DmaSem sig} (hq : q = dsem 0 0 k) (hq' : q' = dsem 0 1 k)
    {hsrc : ((Memref.whole cc0_stg0_0 : Memref sig .tc .vmem S1024x1024 .bf16).slice (Rect.unit (s := S1024x1024) off sz inb) hs).view.WordExact}
    {hdst : ((Memref.whole cc0_scratch0 : Memref sig (Dev.tc n : Thread nD τ).2.kind .vmem S1024x1024 .bf16).slice (Rect.unit (s := S1024x1024) off' sz inb') hs').view.WordExact}
    {hsem : DmaTarget.Typed .vmem (.dma q') (.remote (Dev.tc n : Thread nD τ) ((Memref.whole cc0_scratch0 : Memref sig (Dev.tc n : Thread nD τ).2.kind .vmem S1024x1024 .bf16).slice (Rect.unit (s := S1024x1024) off' sz inb') hs') (.dma q) hsc)}
    {α : Type} {Q : α → sProp 𝕄} {kk : PUnit → Prog (TpuEff nD τ sig (Elt F) Λ₀ .tc) α} :
    iprop(Per P K c ∗ at_ c cc0_stg0_0 (cw k) fullShare.left (P c) ∗ (∃ f, at_ (nb 0 c) cc0_scratch0 (cw k) fullShare f) ∗ Tok c 0 k 0 ∗ Ow c ((0, k) :: l))
      ⊢ iprop(((Cr c 0 0 k ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((Memref.whole cc0_stg0_0 : Memref sig .tc .vmem S1024x1024 .bf16).slice (Rect.unit (s := S1024x1024) off sz inb) hs)
                (.remote (Dev.tc n : Thread nD τ) ((Memref.whole cc0_scratch0 : Memref sig (Dev.tc n : Thread nD τ).2.kind .vmem S1024x1024 .bf16).slice (Rect.unit (s := S1024x1024) off' sz inb') hs') (.dma q) hsc)
                (.dma q') hsrc hdst hsem) kk) Q) := by
  subst hn ho ho' hz
  iintro ⟨#HP, Hs, ⟨%fd, Hd⟩, Ht, HO⟩ Hk
  have h1 := Entails.of_eq (at_slice (F := F) c cc0_stg0_0 inb hs fullShare.left (P c))
  have h1' := Entails.of_eq (at_slice (F := F) c cc0_stg0_0 inb hs fullShare.left (P c)).symm
  have h3' := Entails.of_eq (at_slice (F := F) (nb 0 c) cc0_scratch0 inb' hs' fullShare fd).symm
  have h2 := Entails.of_eq ((at_written (F := F) (nb 0 c) cc0_scratch0 inb' hs' fd (P c) (((Memref.whole cc0_stg0_0).slice (Rect.unit _ _ inb) hs).view.read (Elt F) (P c)) (fun x => rfl)).trans
    (by unfold pay; rw [nb_nb]; rfl : _ = pay P (nb 0 c) 0 1 k 0))
  have h := step_send P K c (nb 0 c) 0 k 0 (by decide) rfl hq hq' (sh := fullShare.left) (fs := (P c)) (fd := fd)
    (hsrc := hsrc) (hdst := hdst) (hsem := hsem) (kk := kk) (Q := Q) rfl l h1 h2
  iapply h $$ [Hs Hd Ht HO]
  · isplitr; · iexact HP
    isplitl [Hs]; · iapply h1'; iexact Hs
    isplitl [Hd]; · iapply h3'; iexact Hd
    isplitl [Ht]; · iexact Ht
    iexact HO
  iexact Hk

/-- A chunk of the device's sum to its neighbour across y. -/
theorem send_y (c n : Dev nD) (k : Fin 4) (hn : n = nb 1 c) (l : List (Fin 3 × Fin 4))
    {off off' sz : Fin 2 → ℕ} {inb : ∀ a, off a + sz a ≤ S2048x1024.size a} {inb' : ∀ a, off' a + sz a ≤ S1024x1024.size a}
    (ho : off = ![1024 * half 0 c, coff k]) (ho' : off' = ![0, coff k]) (hz : sz = ![1024, wid k])
    {hs : ∀ a, (Rect.unit (s := S2048x1024) off sz inb).stride a = 1} {hs' : ∀ a, (Rect.unit (s := S1024x1024) off' sz inb').stride a = 1}
    {hsc : ((Memref.whole cc0_scratch1 : Memref sig (Dev.tc n : Thread nD τ).2.kind .vmem S1024x1024 .bf16).slice (Rect.unit (s := S1024x1024) off' sz inb') hs').view.ref.isScScratch = false}
    {q q' : DmaSem sig} (hq : q = dsem 1 0 k) (hq' : q' = dsem 1 1 k)
    {hsrc : ((Memref.whole cc0_scratch2 : Memref sig .tc .vmem S2048x1024 .bf16).slice (Rect.unit (s := S2048x1024) off sz inb) hs).view.WordExact}
    {hdst : ((Memref.whole cc0_scratch1 : Memref sig (Dev.tc n : Thread nD τ).2.kind .vmem S1024x1024 .bf16).slice (Rect.unit (s := S1024x1024) off' sz inb') hs').view.WordExact}
    {hsem : DmaTarget.Typed .vmem (.dma q') (.remote (Dev.tc n : Thread nD τ) ((Memref.whole cc0_scratch1 : Memref sig (Dev.tc n : Thread nD τ).2.kind .vmem S1024x1024 .bf16).slice (Rect.unit (s := S1024x1024) off' sz inb') hs') (.dma q) hsc)}
    {α : Type} {Q : α → sProp 𝕄} {kk : PUnit → Prog (TpuEff nD τ sig (Elt F) Λ₀ .tc) α} :
    iprop(Per P K c ∗ at_ c cc0_scratch2 (hw c 0 k) fullShare.left (Z P c) ∗ (∃ f, at_ (nb 1 c) cc0_scratch1 (cw k) fullShare f) ∗ Tok c 1 k 0 ∗ Ow c ((1, k) :: l))
      ⊢ iprop(((Cr c 1 0 k ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((Memref.whole cc0_scratch2 : Memref sig .tc .vmem S2048x1024 .bf16).slice (Rect.unit (s := S2048x1024) off sz inb) hs)
                (.remote (Dev.tc n : Thread nD τ) ((Memref.whole cc0_scratch1 : Memref sig (Dev.tc n : Thread nD τ).2.kind .vmem S1024x1024 .bf16).slice (Rect.unit (s := S1024x1024) off' sz inb') hs') (.dma q) hsc)
                (.dma q') hsrc hdst hsem) kk) Q) := by
  subst hn ho ho' hz
  iintro ⟨#HP, Hs, ⟨%fd, Hd⟩, Ht, HO⟩ Hk
  have h1 := Entails.of_eq (at_slice (F := F) c cc0_scratch2 inb hs fullShare.left (Z P c))
  have h1' := Entails.of_eq (at_slice (F := F) c cc0_scratch2 inb hs fullShare.left (Z P c)).symm
  have h3' := Entails.of_eq (at_slice (F := F) (nb 1 c) cc0_scratch1 inb' hs' fullShare fd).symm
  have h2 := Entails.of_eq ((at_written (F := F) (nb 1 c) cc0_scratch1 inb' hs' fd (S P c) (((Memref.whole cc0_scratch2).slice (Rect.unit _ _ inb) hs).view.read (Elt F) (Z P c)) (fun x => Z_half0 P c _ _ (by show 1024 * half 0 c + 1 * _ = 1024 * half 0 c + (0 + 1 * _); omega) (by show coff k + 1 * _ = coff k + 1 * _; rfl))).trans
    (by unfold pay; rw [nb_nb]; rfl : _ = pay P (nb 1 c) 1 1 k 0))
  have h := step_send P K c (nb 1 c) 1 k 0 (by decide) rfl hq hq' (sh := fullShare.left) (fs := (Z P c)) (fd := fd)
    (hsrc := hsrc) (hdst := hdst) (hsem := hsem) (kk := kk) (Q := Q) rfl l h1 h2
  iapply h $$ [Hs Hd Ht HO]
  · isplitr; · iexact HP
    isplitl [Hs]; · iapply h1'; iexact Hs
    isplitl [Hd]; · iapply h3'; iexact Hd
    isplitl [Ht]; · iexact Ht
    iexact HO
  iexact Hk

/-- Row block 0 of a chunk to the neighbour along z. -/
theorem send_z0 (c n : Dev nD) (k : Fin 4) (hn : n = nb 2 c) (l : List (Fin 3 × Fin 4))
    {off off' sz : Fin 2 → ℕ} {inb : ∀ a, off a + sz a ≤ S2048x1024.size a} {inb' : ∀ a, off' a + sz a ≤ S2048x1024.size a}
    (ho : off = ![1024 * half 0 c, coff k]) (ho' : off' = ![1024 * half 0 c, coff k]) (hz : sz = ![1024, wid k])
    {hs : ∀ a, (Rect.unit (s := S2048x1024) off sz inb).stride a = 1} {hs' : ∀ a, (Rect.unit (s := S2048x1024) off' sz inb').stride a = 1}
    {hsc : ((Memref.whole cc0_scratch3 : Memref sig (Dev.tc n : Thread nD τ).2.kind .vmem S2048x1024 .bf16).slice (Rect.unit (s := S2048x1024) off' sz inb') hs').view.ref.isScScratch = false}
    {q q' : DmaSem sig} (hq : q = dsem 2 0 k) (hq' : q' = dsem 2 1 k)
    {hsrc : ((Memref.whole cc0_scratch2 : Memref sig .tc .vmem S2048x1024 .bf16).slice (Rect.unit (s := S2048x1024) off sz inb) hs).view.WordExact}
    {hdst : ((Memref.whole cc0_scratch3 : Memref sig (Dev.tc n : Thread nD τ).2.kind .vmem S2048x1024 .bf16).slice (Rect.unit (s := S2048x1024) off' sz inb') hs').view.WordExact}
    {hsem : DmaTarget.Typed .vmem (.dma q') (.remote (Dev.tc n : Thread nD τ) ((Memref.whole cc0_scratch3 : Memref sig (Dev.tc n : Thread nD τ).2.kind .vmem S2048x1024 .bf16).slice (Rect.unit (s := S2048x1024) off' sz inb') hs') (.dma q) hsc)}
    {α : Type} {Q : α → sProp 𝕄} {kk : PUnit → Prog (TpuEff nD τ sig (Elt F) Λ₀ .tc) α} :
    iprop(Per P K c ∗ at_ c cc0_scratch2 (hw c 0 k) fullShare.right (Z P c) ∗ (∃ f, at_ (nb 2 c) cc0_scratch3 (hw c 0 k) fullShare f) ∗ Tok c 2 k 0 ∗ Ow c ((2, k) :: l))
      ⊢ iprop(((Cr c 2 0 k ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((Memref.whole cc0_scratch2 : Memref sig .tc .vmem S2048x1024 .bf16).slice (Rect.unit (s := S2048x1024) off sz inb) hs)
                (.remote (Dev.tc n : Thread nD τ) ((Memref.whole cc0_scratch3 : Memref sig (Dev.tc n : Thread nD τ).2.kind .vmem S2048x1024 .bf16).slice (Rect.unit (s := S2048x1024) off' sz inb') hs') (.dma q) hsc)
                (.dma q') hsrc hdst hsem) kk) Q) := by
  subst hn ho ho' hz
  iintro ⟨#HP, Hs, ⟨%fd, Hd⟩, Ht, HO⟩ Hk
  have h1 := Entails.of_eq (at_slice (F := F) c cc0_scratch2 inb hs fullShare.right (Z P c))
  have h1' := Entails.of_eq (at_slice (F := F) c cc0_scratch2 inb hs fullShare.right (Z P c)).symm
  have h3' := Entails.of_eq (at_slice (F := F) (nb 2 c) cc0_scratch3 inb' hs' fullShare fd).symm
  have h2 := Entails.of_eq ((at_written (F := F) (nb 2 c) cc0_scratch3 inb' hs' fd (Z P c) (((Memref.whole cc0_scratch2).slice (Rect.unit _ _ inb) hs).view.read (Elt F) (Z P c)) (fun x => rfl)).trans
    (by show at_ (nb 2 c) cc0_scratch3 (hw c 0 k) fullShare (Z P c) = _; rw [← hw_nb2 c 0 k]; unfold pay; rw [nb_nb]; rfl : _ = pay P (nb 2 c) 2 1 k 0))
  have h := step_send P K c (nb 2 c) 2 k 0 (by decide) rfl hq hq' (sh := fullShare.right) (fs := (Z P c)) (fd := fd)
    (hsrc := hsrc) (hdst := hdst) (hsem := hsem) (kk := kk) (Q := Q) rfl l h1 h2
  iapply h $$ [Hs Hd Ht HO]
  · isplitr; · iexact HP
    isplitl [Hs]; · iapply h1'; iexact Hs
    isplitl [Hd]; · iapply h3'; iexact Hd
    isplitl [Ht]; · iexact Ht
    iexact HO
  iexact Hk

/-- Row block 1 of a chunk to the neighbour along z. -/
theorem send_z1 (c n : Dev nD) (k : Fin 4) (hn : n = nb 2 c) (l : List (Fin 3 × Fin 4))
    {off off' sz : Fin 2 → ℕ} {inb : ∀ a, off a + sz a ≤ S2048x1024.size a} {inb' : ∀ a, off' a + sz a ≤ S2048x1024.size a}
    (ho : off = ![1024 * half 1 c, coff k]) (ho' : off' = ![1024 * half 1 c, coff k]) (hz : sz = ![1024, wid k])
    {hs : ∀ a, (Rect.unit (s := S2048x1024) off sz inb).stride a = 1} {hs' : ∀ a, (Rect.unit (s := S2048x1024) off' sz inb').stride a = 1}
    {hsc : ((Memref.whole cc0_scratch3 : Memref sig (Dev.tc n : Thread nD τ).2.kind .vmem S2048x1024 .bf16).slice (Rect.unit (s := S2048x1024) off' sz inb') hs').view.ref.isScScratch = false}
    {q q' : DmaSem sig} (hq : q = dsem 2 0 k) (hq' : q' = dsem 2 1 k)
    {hsrc : ((Memref.whole cc0_scratch2 : Memref sig .tc .vmem S2048x1024 .bf16).slice (Rect.unit (s := S2048x1024) off sz inb) hs).view.WordExact}
    {hdst : ((Memref.whole cc0_scratch3 : Memref sig (Dev.tc n : Thread nD τ).2.kind .vmem S2048x1024 .bf16).slice (Rect.unit (s := S2048x1024) off' sz inb') hs').view.WordExact}
    {hsem : DmaTarget.Typed .vmem (.dma q') (.remote (Dev.tc n : Thread nD τ) ((Memref.whole cc0_scratch3 : Memref sig (Dev.tc n : Thread nD τ).2.kind .vmem S2048x1024 .bf16).slice (Rect.unit (s := S2048x1024) off' sz inb') hs') (.dma q) hsc)}
    {α : Type} {Q : α → sProp 𝕄} {kk : PUnit → Prog (TpuEff nD τ sig (Elt F) Λ₀ .tc) α} :
    iprop(Per P K c ∗ at_ c cc0_scratch2 (hw c 1 k) fullShare (Z P c) ∗ (∃ f, at_ (nb 2 c) cc0_scratch3 (hw c 1 k) fullShare f) ∗ Tok c 2 k 1 ∗ Ow c ((2, k) :: l))
      ⊢ iprop(((Cr c 2 0 k ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((Memref.whole cc0_scratch2 : Memref sig .tc .vmem S2048x1024 .bf16).slice (Rect.unit (s := S2048x1024) off sz inb) hs)
                (.remote (Dev.tc n : Thread nD τ) ((Memref.whole cc0_scratch3 : Memref sig (Dev.tc n : Thread nD τ).2.kind .vmem S2048x1024 .bf16).slice (Rect.unit (s := S2048x1024) off' sz inb') hs') (.dma q) hsc)
                (.dma q') hsrc hdst hsem) kk) Q) := by
  subst hn ho ho' hz
  iintro ⟨#HP, Hs, ⟨%fd, Hd⟩, Ht, HO⟩ Hk
  have h1 := Entails.of_eq (at_slice (F := F) c cc0_scratch2 inb hs fullShare (Z P c))
  have h1' := Entails.of_eq (at_slice (F := F) c cc0_scratch2 inb hs fullShare (Z P c)).symm
  have h3' := Entails.of_eq (at_slice (F := F) (nb 2 c) cc0_scratch3 inb' hs' fullShare fd).symm
  have h2 := Entails.of_eq ((at_written (F := F) (nb 2 c) cc0_scratch3 inb' hs' fd (Z P c) (((Memref.whole cc0_scratch2).slice (Rect.unit _ _ inb) hs).view.read (Elt F) (Z P c)) (fun x => rfl)).trans
    (by show at_ (nb 2 c) cc0_scratch3 (hw c 1 k) fullShare (Z P c) = _; rw [← hw_nb2 c 1 k]; unfold pay; rw [nb_nb]; rfl : _ = pay P (nb 2 c) 2 1 k 1))
  have h := step_send P K c (nb 2 c) 2 k 1 (by decide) rfl hq hq' (sh := fullShare) (fs := (Z P c)) (fd := fd)
    (hsrc := hsrc) (hdst := hdst) (hsem := hsem) (kk := kk) (Q := Q) rfl l h1 h2
  iapply h $$ [Hs Hd Ht HO]
  · isplitr; · iexact HP
    isplitl [Hs]; · iapply h1'; iexact Hs
    isplitl [Hd]; · iapply h3'; iexact Hd
    isplitl [Ht]; · iexact Ht
    iexact HO
  iexact Hk

end Moves

section Access

/-- A buffer of vector memory, by its number. -/
abbrev vb (i : Fin (sig.nNear .tc (.core .vmem))) (hi : sig.names .tc (.core .vmem) i = true) : Ref sig .tc := ⟨.core .vmem, i, hi⟩
/-- It whole. -/
abbrev vm (i : Fin (sig.nNear .tc (.core .vmem))) (hi : sig.names .tc (.core .vmem) i = true) :
    Memref sig .tc (.core .vmem) (vb i hi).ty.shape (vb i hi).ty.elt := Memref.whole (vb i hi)

variable (c : Dev nD) (i : Fin (sig.nNear .tc (.core .vmem))) (hi : sig.names .tc (.core .vmem) i = true)

/-- Loading a window held with known contents. -/
theorem step_load {off off' sz : Fin (vb i hi).ty.shape.rank → ℕ} {inb : ∀ a, off a + sz a ≤ (vb i hi).ty.shape.size a}
    (ho : off = off') {W : Finset (vb i hi).ty.shape.Idx} (hW : W = win (vb i hi).ty.shape off' sz)
    {α : Type} {Q : α → sProp 𝕄} {q : PosShare TreeShare} {f : (vb i hi).ty.Contents (Elt F)}
    {hl : (vm i hi).view.LoadsAt (Rect.unit off sz inb).toLoadRect}
    {kk : ((⟨(vb i hi).ty.shape.rank, sz⟩ : Shape).Idx → Elt F (vb i hi).ty.elt) → Prog (TpuEff nD τ sig (Elt F) Λ₀ .tc) α} :
    at_ c (vb i hi) W q f
      ⊢ iprop((at_ c (vb i hi) W q f -∗ wp frame (wpE (defs₀ (F := F)) 𝒱₀ (c : Thread nD τ) none) Set.univ
            (kk fun x => f ((Rect.unit off' sz (ho ▸ inb)).emb x)) Q)
          -∗ wp frame (wpE (defs₀ (F := F)) 𝒱₀ (c : Thread nD τ) none) Set.univ
              (.op (.load (vm i hi) (Rect.unit off sz inb).toLoadRect hl) kk) Q) := by
  subst ho hW
  exact wp_load_rect 𝒱₀ (c : Thread nD τ) none Set.univ (m := vm i hi) (r := Rect.unit off sz inb) (access_set (vb i hi) inb).le

/-- Storing into a window: it then holds the contents `g` whose values at the window's places are those stored. -/
theorem step_store {off off' sz : Fin (vb i hi).ty.shape.rank → ℕ} {inb : ∀ a, off a + sz a ≤ (vb i hi).ty.shape.size a}
    (ho : off = off') {W : Finset (vb i hi).ty.shape.Idx} (hW : W = win (vb i hi).ty.shape off' sz)
    {α : Type} {Q : α → sProp 𝕄} {f : (vb i hi).ty.Contents (Elt F)} (g : (vb i hi).ty.Contents (Elt F))
    {w : (⟨(vb i hi).ty.shape.rank, sz⟩ : Shape).Idx → Elt F (vb i hi).ty.elt}
    (hg : ∀ x, w x = g ((Rect.unit off' sz (ho ▸ inb)).emb x))
    {hx : ((vm i hi).access (Rect.unit off sz inb)).Stores Finset.univ} {hm : (Finset.univ : Finset (Rect.unit off sz inb).shape.Idx) = Finset.univ ∨ ∀ a, (Rect.unit off sz inb).stride a = 1}
    {kk : PUnit → Prog (TpuEff nD τ sig (Elt F) Λ₀ .tc) α} :
    at_ c (vb i hi) W fullShare f
      ⊢ iprop((at_ c (vb i hi) W fullShare g -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (vm i hi) (Rect.unit off sz inb) w Finset.univ hx hm) kk) Q) := by
  subst ho hW
  have e : (((vm i hi).access (Rect.unit off sz inb)).loc (c : Thread nD τ) ↦[win (vb i hi).ty.shape off sz]{fullShare}
      (((vm i hi).access (Rect.unit off sz inb)).write (Elt F) f w Finset.univ) : sProp 𝕄) = at_ c (vb i hi) (win (vb i hi).ty.shape off sz) fullShare g :=
    pointsTo_congr (write_win (vb i hi) inb f g w hg)
  rw [← e]
  exact wp_store 𝒱₀ (c : Thread nD τ) none Set.univ (m := vm i hi) (r := Rect.unit off sz inb) (by rw [View.setOn_univ]; exact (access_set (vb i hi) inb).le)

end Access

/-! ## What the values stored are -/

section Vals
variable (P : Dev nD → CP (F := F)) (c : Dev nD) (k : Fin 4) {sz : Fin 2 → ℕ}

/-- The chunk of the sum over x, at the device's own row block. -/
theorem val_zx {i1 : ∀ a, ![0, coff k] a + sz a ≤ S1024x1024.size a} {i2 : ∀ a, ![1024 * half 0 c, coff k] a + sz a ≤ S2048x1024.size a} (x : (⟨2, sz⟩ : Shape).Idx) :
    FloatOps.addf (F := F) (φ := .bf16) (P c ((Rect.unit (s := S1024x1024) ![0, coff k] sz i1).emb x)) (P (nb 0 c) ((Rect.unit (s := S1024x1024) ![0, coff k] sz i1).emb x))
      = Z P c ((Rect.unit (s := S2048x1024) ![1024 * half 0 c, coff k] sz i2).emb x) :=
  (Z_half0 P c _ _ (by show 1024 * half 0 c + 1 * _ = 1024 * half 0 c + (0 + 1 * _); omega) rfl).symm

/-- The chunk of the sum over x, widened, at its place in the result. -/
theorem val_ox {i1 : ∀ a, ![0, coff k] a + sz a ≤ S1024x1024.size a} {i2 : ∀ a, ![1024 * half 0 c, coff k] a + sz a ≤ S2048x1024.size a}
    {i3 : ∀ a, ![1024 * half 0 c, 1024 * zc c + coff k] a + sz a ≤ S2048x2048.size a} (x : (⟨2, sz⟩ : Shape).Idx) :
    FloatOps.extf (F := F) (φ := .bf16) .f32 bitsLt_bf16_f32 (FloatOps.addf (F := F) (φ := .bf16) (P c ((Rect.unit (s := S1024x1024) ![0, coff k] sz i1).emb x)) (P (nb 0 c) ((Rect.unit (s := S1024x1024) ![0, coff k] sz i1).emb x)))
      = Out P c ((Rect.unit (s := S2048x2048) ![1024 * half 0 c, 1024 * zc c + coff k] sz i3).emb x) :=
  (congrArg _ (val_zx P c k (i2 := i2) x)).trans (Out_own P c _ _ rfl (by show 1024 * zc c + coff k + 1 * _ = 1024 * zc c + (coff k + 1 * _); omega)).symm

/-- The chunk arrived from across y, at the other row block. -/
theorem val_zy {i1 : ∀ a, ![0, coff k] a + sz a ≤ S1024x1024.size a} {i2 : ∀ a, ![1024 * half 1 c, coff k] a + sz a ≤ S2048x1024.size a} (x : (⟨2, sz⟩ : Shape).Idx) :
    S P (nb 1 c) ((Rect.unit (s := S1024x1024) ![0, coff k] sz i1).emb x)
      = Z P c ((Rect.unit (s := S2048x1024) ![1024 * half 1 c, coff k] sz i2).emb x) :=
  (Z_half1 P c _ _ (by show 1024 * half 1 c + 1 * _ = 1024 * half 1 c + (0 + 1 * _); omega) rfl).symm

/-- The chunk arrived from across y, widened, at its place in the result. -/
theorem val_oy {i1 : ∀ a, ![0, coff k] a + sz a ≤ S1024x1024.size a} {i2 : ∀ a, ![1024 * half 1 c, coff k] a + sz a ≤ S2048x1024.size a}
    {i3 : ∀ a, ![1024 * half 1 c, 1024 * zc c + coff k] a + sz a ≤ S2048x2048.size a} (x : (⟨2, sz⟩ : Shape).Idx) :
    FloatOps.extf (F := F) (φ := .bf16) .f32 bitsLt_bf16_f32 (S P (nb 1 c) ((Rect.unit (s := S1024x1024) ![0, coff k] sz i1).emb x))
      = Out P c ((Rect.unit (s := S2048x2048) ![1024 * half 1 c, 1024 * zc c + coff k] sz i3).emb x) :=
  (congrArg _ (val_zy P c k (i2 := i2) x)).trans (Out_own P c _ _ rfl (by show 1024 * zc c + coff k + 1 * _ = 1024 * zc c + (coff k + 1 * _); omega)).symm

/-- The chunk arrived along z, widened, at its place in the result. -/
theorem val_oz {i1 : ∀ a, ![0, coff k] a + sz a ≤ S2048x1024.size a} {i2 : ∀ a, ![0, 1024 * (1 - zc c) + coff k] a + sz a ≤ S2048x2048.size a} (x : (⟨2, sz⟩ : Shape).Idx) :
    FloatOps.extf (F := F) (φ := .bf16) .f32 bitsLt_bf16_f32 (Z P (nb 2 c) ((Rect.unit (s := S2048x1024) ![0, coff k] sz i1).emb x))
      = Out P c ((Rect.unit (s := S2048x2048) ![0, 1024 * (1 - zc c) + coff k] sz i2).emb x) :=
  (Out_oth P c _ _ rfl (by show 1024 * (1 - zc c) + coff k + 1 * _ = 1024 * (1 - zc c) + (coff k + 1 * _); omega)).symm

end Vals

end Cert.GradProof
-- ==== Proof.Windows.lean ====
/-
# Buffers as windows

The windows of each buffer cover it without overlap, so holding the buffer is holding its windows; and an operation on two
windows side by side, or on a window given out in two shares, is one on the window whole.
-/
module

public import proofs.«01_k».proof.Proof.Moves

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The chunk a column lies in. -/
def kc (q : ℕ) : Fin 4 := if q < 128 then 0 else if q < 384 then 1 else if q < 640 then 2 else 3
theorem kc_spec (q : ℕ) (h : q < 1024) : coff (kc q) ≤ q ∧ q < coff (kc q) + wid (kc q) := by
  unfold kc; split_ifs <;> simp [coff, wid] <;> omega
theorem kc_uniq {q : ℕ} {k : Fin 4} (h : coff k ≤ q ∧ q < coff k + wid k) : k = kc q := by
  unfold kc; fin_cases k <;> simp [coff, wid] at h <;> split_ifs <;> first | rfl | omega

theorem coff_wid (k : Fin 4) : coff k + wid k ≤ 1024 := by revert k; decide

theorem mem_win2 {n m a b p q : ℕ} {i : (⟨2, ![n, m]⟩ : Shape).Idx} :
    i ∈ win ⟨2, ![n, m]⟩ ![a, b] ![p, q] ↔ (a ≤ (i 0).val ∧ (i 0).val < a + p) ∧ (b ≤ (i 1).val ∧ (i 1).val < b + q) := by
  rw [mem_win]
  exact ⟨fun h => ⟨h 0, h 1⟩, fun h a => by fin_cases a; exacts [h.1, h.2]⟩

/-- Both row blocks of chunk `k` of the column half. -/
def zw (k : Fin 4) : Finset S2048x1024.Idx := win S2048x1024 ![0, coff k] ![2048, wid k]
/-- Row block `h` of chunk `k` of the device's own column half of the result. -/
def ow (c : Dev nD) (h : Fin 2) (k : Fin 4) : Finset S2048x2048.Idx := win S2048x2048 ![1024 * half h c, 1024 * zc c + coff k] ![1024, wid k]
/-- Chunk `k` of the other column half of the result. -/
def oz (c : Dev nD) (k : Fin 4) : Finset S2048x2048.Idx := win S2048x2048 ![0, 1024 * (1 - zc c) + coff k] ![2048, wid k]

theorem half_0 (c : Dev nD) : half 0 c = yc c := rfl
theorem half_1 (c : Dev nD) : half 1 c = 1 - yc c := rfl

theorem zw_eq (c : Dev nD) (k : Fin 4) : zw k = hw c 0 k ∪ hw c 1 k := by
  ext i
  have h0 : (i 0).val < 2048 := (i 0).isLt
  have hy := yc_lt c
  unfold zw hw
  rw [Finset.mem_union]
  erw [mem_win2, mem_win2, mem_win2]
  rw [half_0, half_1]
  omega
theorem hw_disj (c : Dev nD) (k : Fin 4) : Disjoint (hw c 0 k) (hw c 1 k) := by
  rw [Finset.disjoint_left]
  intro i h1 h2
  unfold hw at h1 h2
  have hy := yc_lt c
  erw [mem_win2] at h1 h2
  rw [half_0] at h1; rw [half_1] at h2
  omega
theorem ow_disj (c : Dev nD) (k : Fin 4) : Disjoint (ow c 0 k) (ow c 1 k) := by
  rw [Finset.disjoint_left]
  intro i h1 h2
  unfold ow at h1 h2
  have hy := yc_lt c
  erw [mem_win2] at h1 h2
  rw [half_0] at h1; rw [half_1] at h2
  omega
theorem oz_disj (c : Dev nD) (k : Fin 4) : Disjoint (ow c 0 k ∪ ow c 1 k) (oz c k) := by
  rw [Finset.disjoint_left]
  intro i h1 h2
  rw [Finset.mem_union] at h1
  unfold ow at h1
  unfold oz at h2
  have hz := zc_lt c
  have hk := coff_wid k
  erw [mem_win2, mem_win2] at h1
  erw [mem_win2] at h2
  omega

/-- Two windows apart, side by side. -/
theorem at_union (c : Dev nD) (b : Ref sig .tc) (q : PosShare TreeShare) (f : b.ty.Contents (Elt F)) (W W' : Finset b.ty.shape.Idx) (h : Disjoint W W') :
    at_ c b (W ∪ W') q f = iprop(at_ c b W q f ∗ at_ c b W' q f) :=
  Entails.antisymm (pointsTo_union h).1 (pointsTo_union h).2

/-- A buffer whose four windows cover it without overlap is held by them. -/
theorem split_four (c : Dev nD) (b : Ref sig .tc) (q : PosShare TreeShare) (f : b.ty.Contents (Elt F)) (W : Fin 4 → Finset b.ty.shape.Idx)
    (hd : ∀ i k k', i ∈ W k → i ∈ W k' → k = k') (hu : ∀ i, ∃ k, i ∈ W k) :
    at_ c b Finset.univ q f = four fun k => at_ c b (W k) q f := by
  have e : (Finset.univ : Finset b.ty.shape.Idx) = Finset.univ.biUnion W := by
    ext i; simp only [Finset.mem_univ, Finset.mem_biUnion, true_and, true_iff]; exact hu i
  unfold at_
  rw [e]
  refine (pointsTo_biUnion (ℓ := (c : Thread nD τ).loc b) Finset.univ W (fun k _ k' _ hkk => Finset.disjoint_left.mpr fun i h h' => hkk (hd i k k' h h'))).trans ?_
  rw [bigSep_univ_eq_bigSepL [(0 : Fin 4), 1, 2, 3] (by decide) (by decide)]
  simp only [bigSepL_cons, bigSepL_nil]
  unfold four
  exact congrArg _ (congrArg _ (congrArg _ (sep_emp_eq _)))

theorem cw_disj (i : S1024x1024.Idx) (k k' : Fin 4) (h : i ∈ cw k) (h' : i ∈ cw k') : k = k' := by
  unfold cw at h h'
  erw [mem_win2] at h h'
  rw [kc_uniq h.2, kc_uniq h'.2]
theorem cw_cover (i : S1024x1024.Idx) : ∃ k, i ∈ cw k := by
  have h0 : (i 0).val < 1024 := (i 0).isLt
  have h1 : (i 1).val < 1024 := (i 1).isLt
  refine ⟨kc (i 1).val, ?_⟩
  unfold cw
  erw [mem_win2]
  exact ⟨by omega, kc_spec _ h1⟩
theorem zw_disj (i : S2048x1024.Idx) (k k' : Fin 4) (h : i ∈ zw k) (h' : i ∈ zw k') : k = k' := by
  unfold zw at h h'
  erw [mem_win2] at h h'
  rw [kc_uniq h.2, kc_uniq h'.2]
theorem zw_cover (i : S2048x1024.Idx) : ∃ k, i ∈ zw k := by
  have h0 : (i 0).val < 2048 := (i 0).isLt
  have h1 : (i 1).val < 1024 := (i 1).isLt
  refine ⟨kc (i 1).val, ?_⟩
  unfold zw
  erw [mem_win2]
  exact ⟨by omega, kc_spec _ h1⟩
/-- The three windows of the result that hold chunk `k` of either column half. -/
def ok (c : Dev nD) (k : Fin 4) : Finset S2048x2048.Idx := (ow c 0 k ∪ ow c 1 k) ∪ oz c k
theorem mem_ok (c : Dev nD) (k : Fin 4) (i : S2048x2048.Idx) : i ∈ ok c k ↔ coff k ≤ (i 1).val % 1024 ∧ (i 1).val % 1024 < coff k + wid k := by
  have h0 : (i 0).val < 2048 := (i 0).isLt
  have h1 : (i 1).val < 2048 := (i 1).isLt
  have hk := coff_wid k
  have hy := yc_lt c
  have hz := zc_lt c
  unfold ok ow oz
  rw [Finset.mem_union, Finset.mem_union]
  erw [mem_win2, mem_win2, mem_win2]
  rw [half_0, half_1]
  omega
theorem ok_disj (c : Dev nD) (i : S2048x2048.Idx) (k k' : Fin 4) (h : i ∈ ok c k) (h' : i ∈ ok c k') : k = k' := by
  rw [mem_ok] at h h'
  rw [kc_uniq h, kc_uniq h']
theorem ok_cover (c : Dev nD) (i : S2048x2048.Idx) : ∃ k, i ∈ ok c k :=
  ⟨kc ((i 1).val % 1024), (mem_ok c _ i).mpr (kc_spec _ (Nat.mod_lt _ (by decide)))⟩

/-- The partial product, in its chunks. -/
theorem split_p (c : Dev nD) (q : PosShare TreeShare) (f : CP (F := F)) :
    at_ c cc0_stg0_0 Finset.univ q f = four fun k => at_ c cc0_stg0_0 (cw k) q f := split_four c cc0_stg0_0 q f cw cw_disj cw_cover
theorem split_xr (c : Dev nD) (q : PosShare TreeShare) (f : CP (F := F)) :
    at_ c cc0_scratch0 Finset.univ q f = four fun k => at_ c cc0_scratch0 (cw k) q f := split_four c cc0_scratch0 q f cw cw_disj cw_cover
theorem split_yr (c : Dev nD) (q : PosShare TreeShare) (f : CP (F := F)) :
    at_ c cc0_scratch1 Finset.univ q f = four fun k => at_ c cc0_scratch1 (cw k) q f := split_four c cc0_scratch1 q f cw cw_disj cw_cover
theorem pair_zs (c : Dev nD) (k : Fin 4) (q : PosShare TreeShare) (f : S2048x1024.Idx → Elt F .bf16) :
    at_ c cc0_scratch2 (zw k) q f = iprop(at_ c cc0_scratch2 (hw c 0 k) q f ∗ at_ c cc0_scratch2 (hw c 1 k) q f) := by
  rw [zw_eq c k]; exact at_union c cc0_scratch2 q f _ _ (hw_disj c k)
theorem pair_zr (c : Dev nD) (k : Fin 4) (q : PosShare TreeShare) (f : S2048x1024.Idx → Elt F .bf16) :
    at_ c cc0_scratch3 (zw k) q f = iprop(at_ c cc0_scratch3 (hw c 0 k) q f ∗ at_ c cc0_scratch3 (hw c 1 k) q f) := by
  rw [zw_eq c k]; exact at_union c cc0_scratch3 q f _ _ (hw_disj c k)
/-- The column half, in its chunks and row blocks. -/
theorem split_zs (c : Dev nD) (q : PosShare TreeShare) (f : S2048x1024.Idx → Elt F .bf16) :
    at_ c cc0_scratch2 Finset.univ q f = four fun k => iprop(at_ c cc0_scratch2 (hw c 0 k) q f ∗ at_ c cc0_scratch2 (hw c 1 k) q f) :=
  (split_four c cc0_scratch2 q f zw zw_disj zw_cover).trans (congrArg four (funext fun k => pair_zs c k q f))
theorem split_zr0 (c : Dev nD) (q : PosShare TreeShare) (f : S2048x1024.Idx → Elt F .bf16) :
    at_ c cc0_scratch3 Finset.univ q f = four fun k => at_ c cc0_scratch3 (zw k) q f := split_four c cc0_scratch3 q f zw zw_disj zw_cover
theorem split_zr (c : Dev nD) (q : PosShare TreeShare) (f : S2048x1024.Idx → Elt F .bf16) :
    at_ c cc0_scratch3 Finset.univ q f = four fun k => iprop(at_ c cc0_scratch3 (hw c 0 k) q f ∗ at_ c cc0_scratch3 (hw c 1 k) q f) :=
  (split_zr0 c q f).trans (congrArg four (funext fun k => pair_zr c k q f))
/-- The result, in its chunks: two row blocks of the device's own column half, and the other column half. -/
theorem split_out (c : Dev nD) (q : PosShare TreeShare) (f : S2048x2048.Idx → Elt F .f32) :
    at_ c cc0_stg1_0 Finset.univ q f = four fun k => iprop((at_ c cc0_stg1_0 (ow c 0 k) q f ∗ at_ c cc0_stg1_0 (ow c 1 k) q f) ∗ at_ c cc0_stg1_0 (oz c k) q f) := by
  refine (split_four c cc0_stg1_0 q f (ok c) (ok_disj c) (ok_cover c)).trans (congrArg four (funext fun k => ?_))
  exact (at_union c cc0_stg1_0 q f _ _ (oz_disj c k)).trans
    (congrArg (fun x => iprop(x ∗ at_ c cc0_stg1_0 (oz c k) q f)) (at_union c cc0_stg1_0 q f _ _ (ow_disj c k)))

/-- A window held in full is held in two half shares. -/
theorem halves (c : Dev nD) (b : Ref sig .tc) (W : Finset b.ty.shape.Idx) (f : b.ty.Contents (Elt F)) :
    at_ c b W fullShare f = iprop(at_ c b W fullShare.left f ∗ at_ c b W fullShare.right f) :=
  Entails.antisymm (pointsTo_share (PosShare.mem_left_op_right fullShare)).1 (pointsTo_share (PosShare.mem_left_op_right fullShare)).2

end Cert.GradProof
-- ==== Proof.Chunks.lean ====
/-
# The values stored, and storing and loading the column half's chunks

Each value the body stores is, place by place, the sum of what it loaded, or what it loaded, widened or not.
-/
module

public import proofs.«01_k».proof.Proof.Windows

public import Idealize.ShloMosaic.Lib.Pointwise.Reshape

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Pays

theorem pay2 (v w : Vec F S1024x128 .bf16) (x : S1024x128.Idx) : k0_pay2 v w x = FloatOps.addf (F := F) (φ := .bf16) (v x) (w x) := by
  unfold k0_pay2 k0_pay1; simp only [shapeCast_id]; rfl
theorem pay3 (v w : Vec F S1024x128 .bf16) (x : S1024x128.Idx) : k0_pay3 v w x = FloatOps.extf (F := F) (φ := .bf16) .f32 bitsLt_bf16_f32 (FloatOps.addf (F := F) (φ := .bf16) (v x) (w x)) := by
  unfold k0_pay3 k0_pay1; simp only [shapeCast_id]; rfl
theorem pay5 (v w : Vec F S1024x256 .bf16) (x : S1024x256.Idx) : k0_pay5 v w x = FloatOps.addf (F := F) (φ := .bf16) (v x) (w x) := by
  unfold k0_pay5 k0_pay4; simp only [shapeCast_id]; rfl
theorem pay6 (v w : Vec F S1024x256 .bf16) (x : S1024x256.Idx) : k0_pay6 v w x = FloatOps.extf (F := F) (φ := .bf16) .f32 bitsLt_bf16_f32 (FloatOps.addf (F := F) (φ := .bf16) (v x) (w x)) := by
  unfold k0_pay6 k0_pay4; simp only [shapeCast_id]; rfl
theorem pay10 (v w : Vec F S1024x256 .bf16) (x : S1024x256.Idx) : k0_pay10 v w x = FloatOps.addf (F := F) (φ := .bf16) (v x) (w x) := by
  unfold k0_pay10 k0_pay9; simp only [shapeCast_id]; rfl
theorem pay11 (v w : Vec F S1024x256 .bf16) (x : S1024x256.Idx) : k0_pay11 v w x = FloatOps.extf (F := F) (φ := .bf16) .f32 bitsLt_bf16_f32 (FloatOps.addf (F := F) (φ := .bf16) (v x) (w x)) := by
  unfold k0_pay11 k0_pay9; simp only [shapeCast_id]; rfl
theorem pay16 (v w : Vec F S1024x384 .bf16) (x : S1024x384.Idx) : k0_pay16 v w x = FloatOps.addf (F := F) (φ := .bf16) (v x) (w x) := by
  unfold k0_pay16 k0_pay15; simp only [shapeCast_id]; rfl
theorem pay17 (v w : Vec F S1024x384 .bf16) (x : S1024x384.Idx) : k0_pay17 v w x = FloatOps.extf (F := F) (φ := .bf16) .f32 bitsLt_bf16_f32 (FloatOps.addf (F := F) (φ := .bf16) (v x) (w x)) := by
  unfold k0_pay17 k0_pay15; simp only [shapeCast_id]; rfl
theorem pay7 (v : Vec F S1024x128 .bf16) (x : S1024x128.Idx) : k0_pay7 v x = v x := by
  unfold k0_pay7; simp only [shapeCast_id]
theorem pay12 (v : Vec F S1024x256 .bf16) (x : S1024x256.Idx) : k0_pay12 v x = v x := by
  unfold k0_pay12; simp only [shapeCast_id]
theorem pay18 (v : Vec F S1024x256 .bf16) (x : S1024x256.Idx) : k0_pay18 v x = v x := by
  unfold k0_pay18; simp only [shapeCast_id]
theorem pay21 (v : Vec F S1024x384 .bf16) (x : S1024x384.Idx) : k0_pay21 v x = v x := by
  unfold k0_pay21; simp only [shapeCast_id]
theorem pay8 (v : Vec F S1024x128 .bf16) (x : S1024x128.Idx) : k0_pay8 v x = FloatOps.extf (F := F) (φ := .bf16) .f32 bitsLt_bf16_f32 (v x) := by
  unfold k0_pay8; rfl
theorem pay13 (v : Vec F S1024x256 .bf16) (x : S1024x256.Idx) : k0_pay13 v x = FloatOps.extf (F := F) (φ := .bf16) .f32 bitsLt_bf16_f32 (v x) := by
  unfold k0_pay13; rfl
theorem pay19 (v : Vec F S1024x256 .bf16) (x : S1024x256.Idx) : k0_pay19 v x = FloatOps.extf (F := F) (φ := .bf16) .f32 bitsLt_bf16_f32 (v x) := by
  unfold k0_pay19; rfl
theorem pay22 (v : Vec F S1024x384 .bf16) (x : S1024x384.Idx) : k0_pay22 v x = FloatOps.extf (F := F) (φ := .bf16) .f32 bitsLt_bf16_f32 (v x) := by
  unfold k0_pay22; rfl
theorem pay14 (v : Vec F S2048x128 .bf16) (x : S2048x128.Idx) : k0_pay14 v x = FloatOps.extf (F := F) (φ := .bf16) .f32 bitsLt_bf16_f32 (v x) := by
  unfold k0_pay14; rfl
theorem pay20 (v : Vec F S2048x256 .bf16) (x : S2048x256.Idx) : k0_pay20 v x = FloatOps.extf (F := F) (φ := .bf16) .f32 bitsLt_bf16_f32 (v x) := by
  unfold k0_pay20; rfl
theorem pay23 (v : Vec F S2048x256 .bf16) (x : S2048x256.Idx) : k0_pay23 v x = FloatOps.extf (F := F) (φ := .bf16) .f32 bitsLt_bf16_f32 (v x) := by
  unfold k0_pay23; rfl
theorem pay24 (v : Vec F S2048x384 .bf16) (x : S2048x384.Idx) : k0_pay24 v x = FloatOps.extf (F := F) (φ := .bf16) .f32 bitsLt_bf16_f32 (v x) := by
  unfold k0_pay24; rfl

/-! ## Values carried from one part of the body to the next -/

variable (P : Dev nD → CP (F := F)) (c : Dev nD)

/-- The first chunk of the sum over x, widened. -/
def v91 : FVec F S1024x128 .f32 := fun x => Out P c ((Rect.unit (s := S2048x2048) ![1024 * half 0 c, 1024 * zc c + coff 0] ![1024, 128] (off2 c ▸ k0_off2_inb c)).emb x)
/-- The first chunk arrived from across y. -/
def v189 : Vec F S1024x128 .bf16 := fun x => S P (nb 1 c) ((Rect.unit (s := S1024x1024) ![0, coff 0] ![1024, 128] inb_S1024x1024_S1024x128_0_0).emb x)
/-- The same, as a chunk of the column half. -/
def v193 : FVec F S1024x128 .bf16 := fun x => Z P c ((Rect.unit (s := S2048x1024) ![1024 * half 1 c, coff 0] ![1024, 128] (off7 c ▸ k0_off7_inb c)).emb x)
/-- The first chunk arrived along z, widened. -/
def v323 : FVec F S2048x128 .f32 := fun x => Out P c ((Rect.unit (s := S2048x2048) ![0, 1024 * (1 - zc c) + coff 0] ![2048, 128] (off15 c ▸ k0_off15_inb c)).emb x)
/-- The third chunk arrived from across y, widened. -/
def v389 : FVec F S1024x256 .f32 := fun x => Out P c ((Rect.unit (s := S2048x2048) ![1024 * half 1 c, 1024 * zc c + coff 2] ![1024, 256] (off13_384 c ▸ k0_off13_inb c 1)).emb x)

end Pays

end Cert.GradProof
-- ==== Proof.Body1.lean ====
/-
# The body, first third

The parts of the body up to the third chunk's sum over x. Each theorem says what its part takes and what it leaves.
-/
module

public import proofs.«01_k».proof.Proof.Chunks

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (P : Dev nD → CP (F := F)) (K : GSem nD τ sig → ℕ) (c : Dev nD)

/-- Part 3 of the body. -/
theorem part3 (v5 : BitVec 32) (v8 : BitVec 32) (v19 : BitVec 32) (v24 : BitVec 32) (v27 : BitVec 32) (v61 : BitVec 32) {Q : (FVec F S1024x128 .f32) → sProp 𝕄} :
    iprop(Per P K c ∗ at_ c cc0_stg0_0 (cw 1) fullShare.left (P c) ∗ (∃ f, at_ (nb 0 c) cc0_scratch0 (cw 1) fullShare f) ∗ Tok c 0 1 0 ∗ Cr c 0 1 0 ∗ At c 0 1 0 ∗ at_ c cc0_stg0_0 (cw 0) fullShare.right (P c) ∗ (∃ f, at_ c cc0_scratch2 (hw c 0 0) fullShare f) ∗ (∃ f, at_ c cc0_stg1_0 (ow c 0 0) fullShare f) ∗ Ow c [(0, 1), (1, 0), (2, 0), (0, 2), (1, 1), (2, 1), (2, 0), (0, 3), (1, 2), (2, 2), (2, 1), (1, 3), (2, 3), (2, 2), (2, 3)])
      ⊢ iprop(((Cr c 0 0 1 ∗ semVal (cell c 0 1 0) 0 ∗ at_ c cc0_stg0_0 (cw 0) fullShare.right (P c) ∗ at_ c cc0_scratch0 (cw 0) fullShare (P (nb 0 c)) ∗ at_ c cc0_scratch2 (hw c 0 0) fullShare.left (Z P c) ∗ at_ c cc0_scratch2 (hw c 0 0) fullShare.right (Z P c) ∗ (∃ f, at_ c cc0_stg1_0 (ow c 0 0) fullShare f) ∗ Ow c [(1, 0), (2, 0), (0, 2), (1, 1), (2, 1), (2, 0), (0, 3), (1, 2), (2, 2), (2, 1), (1, 3), (2, 3), (2, 2), (2, 3)]) -∗ Q (v91 P c))
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v5 v8 v19 v24 v27 v61) Q) := by
  rw [k0_part3_eq_skeleton]
  unfold k0_part3_skel
  simp only [semSignalWord, semWaitWord, Prog.lift, Prog.bind_op, Prog.bind_ret, Prog.pure_eq_ret]
  iintro ⟨#HP, HpL1, Hdx1, Ht0_1_0, Hcr0_0_0, HA0_1_0, HpR0, Hzu0_0, Hou0_0, HO⟩ Hk
  iapply (send_x P K c _ 1 (dev5 c) [(1, 0), (2, 0), (0, 2), (1, 1), (2, 1), (2, 0), (0, 3), (1, 2), (2, 2), (2, 1), (1, 3), (2, 3), (2, 2), (2, 3)] rfl rfl rfl rfl rfl) $$ [HpL1 Hdx1 Ht0_1_0 HO]
  · isplitr; · iexact HP
    isplitl [HpL1]; · iexact HpL1
    isplitl [Hdx1]; · iexact Hdx1
    isplitl [Ht0_1_0]; · iexact Ht0_1_0
    iexact HO
  iintro ⟨Hcs0_1_0, HO⟩
  iapply (step_wait P K c 0 (by decide) 1 0 rfl rfl [(1, 0), (2, 0), (0, 2), (1, 1), (2, 1), (2, 0), (0, 3), (1, 2), (2, 2), (2, 1), (1, 3), (2, 3), (2, 2), (2, 3)] (by decide)) $$ [Hcr0_0_0 HA0_1_0 HO]
  · isplitr; · iexact HP
    isplitl [Hcr0_0_0]; · iexact Hcr0_0_0
    isplitl [HA0_1_0]; · iexact HA0_1_0
    iexact HO
  iintro ⟨Hxr0, HV0_1_0, HO⟩
  ihave Hxr0 := (Entails.of_eq (show pay P c 0 1 0 0 = at_ c cc0_scratch0 (cw 0) fullShare (P (nb 0 c)) from rfl)) $$ Hxr0
  iapply (step_load c 0 rfl (sz := S1024x128.size) (off' := ![0, coff 0]) rfl (W := cw 0) rfl (q := fullShare.right) (f := P c)) $$ [HpR0]
  · iexact HpR0
  iintro HpR0
  iapply (step_load c 2 rfl (sz := S1024x128.size) (off' := ![0, coff 0]) rfl (W := cw 0) rfl (q := fullShare) (f := P (nb 0 c))) $$ [Hxr0]
  · iexact Hxr0
  iintro Hxr0
  icases Hzu0_0 with ⟨%fz, Hzu0_0⟩
  iapply (step_load c 4 rfl (sz := S1024x128.size) (off1 c) (W := hw c 0 0) rfl (q := fullShare) (f := fz)) $$ [Hzu0_0]
  · iexact Hzu0_0
  iintro Hzu0_0
  iapply (step_store c 4 rfl (sz := S1024x128.size) (off1 c) (W := hw c 0 0) rfl (Z P c) (fun x => (pay2 _ _ x).trans (val_zx P c 0 x))) $$ [Hzu0_0]
  · iexact Hzu0_0
  iintro Hz
  ihave Hz := (Entails.of_eq (halves c cc0_scratch2 (hw c 0 0) (Z P c))) $$ Hz
  icases Hz with ⟨HzL0, HzR0⟩
  icases Hou0_0 with ⟨%fo, Hou0_0⟩
  iapply (step_load c 1 rfl (sz := S1024x128.size) (off2 c) (W := ow c 0 0) rfl (q := fullShare) (f := fo)) $$ [Hou0_0]
  · iexact Hou0_0
  iintro Hou0_0
  rw [wp_ret]; imodintro
  have e : k0_pay3 (F := F) (fun x => P c ((Rect.unit (s := S1024x1024) ![0, coff 0] ![1024, 128] (inb_S1024x1024_S1024x128_0_0)).emb x)) (fun x => P (nb 0 c) ((Rect.unit (s := S1024x1024) ![0, coff 0] ![1024, 128] (inb_S1024x1024_S1024x128_0_0)).emb x)) = (v91 P c) := funext fun x => (pay3 _ _ x).trans (val_ox P c 0 (i2 := off1 c ▸ k0_off1_inb c) x)
  iapply (Entails.of_eq (congrArg (fun z => Q z) e.symm))
  iapply Hk
  isplitl [Hcs0_1_0]; · iexact Hcs0_1_0
  isplitl [HV0_1_0]; · iexact HV0_1_0
  isplitl [HpR0]; · iexact HpR0
  isplitl [Hxr0]; · iexact Hxr0
  isplitl [HzL0]; · iexact HzL0
  isplitl [HzR0]; · iexact HzR0
  isplitl [Hou0_0]; · iexists _; iexact Hou0_0
  iexact HO

/-- Part 4 of the body. -/
theorem part4 (v2 : BitVec 32) (v5 : BitVec 32) (v8 : BitVec 32) (v19 : BitVec 32) (v20 : BitVec 32) (v23 : BitVec 32) {Q : (PUnit) → sProp 𝕄} :
    iprop(Per P K c ∗ (∃ f, at_ c cc0_stg1_0 (ow c 0 0) fullShare f) ∗ at_ c cc0_scratch2 (hw c 0 0) fullShare.left (Z P c) ∗ (∃ f, at_ (nb 1 c) cc0_scratch1 (cw 0) fullShare f) ∗ Tok c 1 0 0 ∗ at_ c cc0_scratch2 (hw c 0 0) fullShare.right (Z P c) ∗ (∃ f, at_ (nb 2 c) cc0_scratch3 (hw c 0 0) fullShare f) ∗ Tok c 2 0 0 ∗ Ow c [(1, 0), (2, 0), (0, 2), (1, 1), (2, 1), (2, 0), (0, 3), (1, 2), (2, 2), (2, 1), (1, 3), (2, 3), (2, 2), (2, 3)])
      ⊢ iprop(((at_ c cc0_stg1_0 (ow c 0 0) fullShare (Out P c) ∗ Cr c 1 0 0 ∗ Cr c 2 0 0 ∗ Ow c [(0, 2), (1, 1), (2, 1), (2, 0), (0, 3), (1, 2), (2, 2), (2, 1), (1, 3), (2, 3), (2, 2), (2, 3)]) -∗ Q ⟨⟩)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v19 v20 v23 (v91 P c)) Q) := by
  rw [k0_part4_eq_skeleton]
  unfold k0_part4_skel
  simp only [semSignalWord, semWaitWord, Prog.lift, Prog.bind_op, Prog.bind_ret, Prog.pure_eq_ret]
  iintro ⟨#HP, Hou0_0, HzL0, Hdy0, Ht1_0_0, HzR0, Hdz0_0, Ht2_0_0, HO⟩ Hk
  icases Hou0_0 with ⟨%fo, Hou0_0⟩
  iapply (step_store c 1 rfl (sz := S1024x128.size) (off2 c) (W := ow c 0 0) rfl (Out P c) (fun _ => rfl)) $$ [Hou0_0]
  · iexact Hou0_0
  iintro Ho0_0
  iapply (send_y P K c _ 0 (dev6 c) [(2, 0), (0, 2), (1, 1), (2, 1), (2, 0), (0, 3), (1, 2), (2, 2), (2, 1), (1, 3), (2, 3), (2, 2), (2, 3)] (off3 c) rfl rfl rfl rfl) $$ [HzL0 Hdy0 Ht1_0_0 HO]
  · isplitr; · iexact HP
    isplitl [HzL0]; · iexact HzL0
    isplitl [Hdy0]; · iexact Hdy0
    isplitl [Ht1_0_0]; · iexact Ht1_0_0
    iexact HO
  iintro ⟨Hcs1_0_0, HO⟩
  iapply (send_z0 P K c _ 0 (dev7 c) [(0, 2), (1, 1), (2, 1), (2, 0), (0, 3), (1, 2), (2, 2), (2, 1), (1, 3), (2, 3), (2, 2), (2, 3)] (off3 c) (off3 c) rfl rfl rfl) $$ [HzR0 Hdz0_0 Ht2_0_0 HO]
  · isplitr; · iexact HP
    isplitl [HzR0]; · iexact HzR0
    isplitl [Hdz0_0]; · iexact Hdz0_0
    isplitl [Ht2_0_0]; · iexact Ht2_0_0
    iexact HO
  iintro ⟨Hcs2_0_0, HO⟩
  rw [wp_ret]; imodintro
  iapply Hk
  isplitl [Ho0_0]; · iexact Ho0_0
  isplitl [Hcs1_0_0]; · iexact Hcs1_0_0
  isplitl [Hcs2_0_0]; · iexact Hcs2_0_0
  iexact HO

/-- Part 5 of the body. -/
theorem part5 (v2 : BitVec 32) (v5 : BitVec 32) (v8 : BitVec 32) (v19 : BitVec 32) (v20 : BitVec 32) (v24 : BitVec 32) (v27 : BitVec 32) {Q : (Σ' (v158 : BitVec 32), BitVec 32) → sProp 𝕄} :
    iprop(Per P K c ∗ at_ c cc0_stg0_0 (cw 2) fullShare.left (P c) ∗ (∃ f, at_ (nb 0 c) cc0_scratch0 (cw 2) fullShare f) ∗ Tok c 0 2 0 ∗ Cr c 0 1 1 ∗ At c 0 1 1 ∗ at_ c cc0_stg0_0 (cw 1) fullShare.right (P c) ∗ (∃ f, at_ c cc0_scratch2 (hw c 0 1) fullShare f) ∗ (∃ f, at_ c cc0_stg1_0 (ow c 0 1) fullShare f) ∗ Ow c [(0, 2), (1, 1), (2, 1), (2, 0), (0, 3), (1, 2), (2, 2), (2, 1), (1, 3), (2, 3), (2, 2), (2, 3)])
      ⊢ iprop((∀ u, ∀ w, (Cr c 0 0 2 ∗ semVal (cell c 0 1 1) 0 ∗ at_ c cc0_stg0_0 (cw 1) fullShare.right (P c) ∗ at_ c cc0_scratch0 (cw 1) fullShare (P (nb 0 c)) ∗ at_ c cc0_scratch2 (hw c 0 1) fullShare.left (Z P c) ∗ at_ c cc0_scratch2 (hw c 0 1) fullShare.right (Z P c) ∗ at_ c cc0_stg1_0 (ow c 0 1) fullShare (Out P c) ∗ Ow c [(1, 1), (2, 1), (2, 0), (0, 3), (1, 2), (2, 2), (2, 1), (1, 3), (2, 3), (2, 2), (2, 3)]) -∗ Q ⟨u, w⟩)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v19 v20 v24 v27) Q) := by
  rw [k0_part5_eq_skeleton]
  unfold k0_part5_skel
  simp only [semSignalWord, semWaitWord, Prog.lift, Prog.bind_op, Prog.bind_ret, Prog.pure_eq_ret]
  iintro ⟨#HP, HpL2, Hdx2, Ht0_2_0, Hcr0_1_0, HA0_1_1, HpR1, Hzu0_1, Hou0_1, HO⟩ Hk
  iapply (send_x P K c _ 2 (dev8 c) [(1, 1), (2, 1), (2, 0), (0, 3), (1, 2), (2, 2), (2, 1), (1, 3), (2, 3), (2, 2), (2, 3)] rfl rfl rfl rfl rfl) $$ [HpL2 Hdx2 Ht0_2_0 HO]
  · isplitr; · iexact HP
    isplitl [HpL2]; · iexact HpL2
    isplitl [Hdx2]; · iexact Hdx2
    isplitl [Ht0_2_0]; · iexact Ht0_2_0
    iexact HO
  iintro ⟨Hcs0_2_0, HO⟩
  iapply (step_wait P K c 0 (by decide) 1 1 rfl rfl [(1, 1), (2, 1), (2, 0), (0, 3), (1, 2), (2, 2), (2, 1), (1, 3), (2, 3), (2, 2), (2, 3)] (by decide)) $$ [Hcr0_1_0 HA0_1_1 HO]
  · isplitr; · iexact HP
    isplitl [Hcr0_1_0]; · iexact Hcr0_1_0
    isplitl [HA0_1_1]; · iexact HA0_1_1
    iexact HO
  iintro ⟨Hxr1, HV0_1_1, HO⟩
  ihave Hxr1 := (Entails.of_eq (show pay P c 0 1 1 0 = at_ c cc0_scratch0 (cw 1) fullShare (P (nb 0 c)) from rfl)) $$ Hxr1
  iapply (step_load c 0 rfl (sz := S1024x256.size) (off' := ![0, coff 1]) rfl (W := cw 1) rfl (q := fullShare.right) (f := P c)) $$ [HpR1]
  · iexact HpR1
  iintro HpR1
  iapply (step_load c 2 rfl (sz := S1024x256.size) (off' := ![0, coff 1]) rfl (W := cw 1) rfl (q := fullShare) (f := P (nb 0 c))) $$ [Hxr1]
  · iexact Hxr1
  iintro Hxr1
  icases Hzu0_1 with ⟨%fz, Hzu0_1⟩
  iapply (step_load c 4 rfl (sz := S1024x256.size) (off4 c) (W := hw c 0 1) rfl (q := fullShare) (f := fz)) $$ [Hzu0_1]
  · iexact Hzu0_1
  iintro Hzu0_1
  iapply (step_store c 4 rfl (sz := S1024x256.size) (off4 c) (W := hw c 0 1) rfl (Z P c) (fun x => (pay5 _ _ x).trans (val_zx P c 1 x))) $$ [Hzu0_1]
  · iexact Hzu0_1
  iintro Hz
  ihave Hz := (Entails.of_eq (halves c cc0_scratch2 (hw c 0 1) (Z P c))) $$ Hz
  icases Hz with ⟨HzL1, HzR1⟩
  icases Hou0_1 with ⟨%fo, Hou0_1⟩
  iapply (step_load c 1 rfl (sz := S1024x256.size) (off5_128 c) (W := ow c 0 1) rfl (q := fullShare) (f := fo)) $$ [Hou0_1]
  · iexact Hou0_1
  iintro Hou0_1
  iapply (step_store c 1 rfl (sz := S1024x256.size) (off5_128 c) (W := ow c 0 1) rfl (Out P c) (fun x => (pay6 _ _ x).trans (val_ox P c 1 (i2 := off4 c ▸ k0_off4_inb c) x))) $$ [Hou0_1]
  · iexact Hou0_1
  iintro Ho0_1
  rw [wp_ret]; imodintro
  iapply Hk
  isplitl [Hcs0_2_0]; · iexact Hcs0_2_0
  isplitl [HV0_1_1]; · iexact HV0_1_1
  isplitl [HpR1]; · iexact HpR1
  isplitl [Hxr1]; · iexact Hxr1
  isplitl [HzL1]; · iexact HzL1
  isplitl [HzR1]; · iexact HzR1
  isplitl [Ho0_1]; · iexact Ho0_1
  iexact HO

/-- Part 6 of the body. -/
theorem part6 (v2 : BitVec 32) (v5 : BitVec 32) (v8 : BitVec 32) (v20 : BitVec 32) (v23 : BitVec 32) (v26 : BitVec 32) (v158 : BitVec 32) (v159 : BitVec 32) {Q : (Σ' (v189 : Vec F S1024x128 .bf16), FVec F S1024x128 .bf16) → sProp 𝕄} :
    iprop(Per P K c ∗ at_ c cc0_scratch2 (hw c 0 1) fullShare.left (Z P c) ∗ (∃ f, at_ (nb 1 c) cc0_scratch1 (cw 1) fullShare f) ∗ Tok c 1 1 0 ∗ at_ c cc0_scratch2 (hw c 0 1) fullShare.right (Z P c) ∗ (∃ f, at_ (nb 2 c) cc0_scratch3 (hw c 0 1) fullShare f) ∗ Tok c 2 1 0 ∗ Cr c 1 1 0 ∗ At c 1 1 0 ∗ (∃ f, at_ c cc0_scratch2 (hw c 1 0) fullShare f) ∗ Ow c [(1, 1), (2, 1), (2, 0), (0, 3), (1, 2), (2, 2), (2, 1), (1, 3), (2, 3), (2, 2), (2, 3)])
      ⊢ iprop(((Cr c 1 0 1 ∗ Cr c 2 0 1 ∗ semVal (cell c 1 1 0) 0 ∗ at_ c cc0_scratch1 (cw 0) fullShare (S P (nb 1 c)) ∗ (∃ f, at_ c cc0_scratch2 (hw c 1 0) fullShare f) ∗ Ow c [(2, 0), (0, 3), (1, 2), (2, 2), (2, 1), (1, 3), (2, 3), (2, 2), (2, 3)]) -∗ Q ⟨(v189 P c), (v193 P c)⟩)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v20 v23 v26 v158 v159) Q) := by
  rw [k0_part6_eq_skeleton]
  unfold k0_part6_skel
  simp only [semSignalWord, semWaitWord, Prog.lift, Prog.bind_op, Prog.bind_ret, Prog.pure_eq_ret]
  iintro ⟨#HP, HzL1, Hdy1, Ht1_1_0, HzR1, Hdz0_1, Ht2_1_0, Hcr1_0_0, HA1_1_0, Hzu1_0, HO⟩ Hk
  iapply (send_y P K c _ 1 (dev9 c) [(2, 1), (2, 0), (0, 3), (1, 2), (2, 2), (2, 1), (1, 3), (2, 3), (2, 2), (2, 3)] (off6 c) rfl rfl rfl rfl) $$ [HzL1 Hdy1 Ht1_1_0 HO]
  · isplitr; · iexact HP
    isplitl [HzL1]; · iexact HzL1
    isplitl [Hdy1]; · iexact Hdy1
    isplitl [Ht1_1_0]; · iexact Ht1_1_0
    iexact HO
  iintro ⟨Hcs1_1_0, HO⟩
  iapply (send_z0 P K c _ 1 (dev10 c) [(2, 0), (0, 3), (1, 2), (2, 2), (2, 1), (1, 3), (2, 3), (2, 2), (2, 3)] (off6 c) (off6 c) rfl rfl rfl) $$ [HzR1 Hdz0_1 Ht2_1_0 HO]
  · isplitr; · iexact HP
    isplitl [HzR1]; · iexact HzR1
    isplitl [Hdz0_1]; · iexact Hdz0_1
    isplitl [Ht2_1_0]; · iexact Ht2_1_0
    iexact HO
  iintro ⟨Hcs2_1_0, HO⟩
  iapply (step_wait P K c 1 (by decide) 1 0 rfl rfl [(2, 0), (0, 3), (1, 2), (2, 2), (2, 1), (1, 3), (2, 3), (2, 2), (2, 3)] (by decide)) $$ [Hcr1_0_0 HA1_1_0 HO]
  · isplitr; · iexact HP
    isplitl [Hcr1_0_0]; · iexact Hcr1_0_0
    isplitl [HA1_1_0]; · iexact HA1_1_0
    iexact HO
  iintro ⟨Hyr0, HV1_1_0, HO⟩
  ihave Hyr0 := (Entails.of_eq (show pay P c 1 1 0 0 = at_ c cc0_scratch1 (cw 0) fullShare (S P (nb 1 c)) from rfl)) $$ Hyr0
  iapply (step_load c 3 rfl (sz := S1024x128.size) (off' := ![0, coff 0]) rfl (W := cw 0) rfl (q := fullShare) (f := S P (nb 1 c))) $$ [Hyr0]
  · iexact Hyr0
  iintro Hyr0
  icases Hzu1_0 with ⟨%fz, Hzu1_0⟩
  iapply (step_load c 4 rfl (sz := S1024x128.size) (off7 c) (W := hw c 1 0) rfl (q := fullShare) (f := fz)) $$ [Hzu1_0]
  · iexact Hzu1_0
  iintro Hzu1_0
  rw [wp_ret]; imodintro
  have e : k0_pay7 (F := F) (fun x => S P (nb 1 c) ((Rect.unit (s := S1024x1024) ![0, coff 0] ![1024, 128] (inb_S1024x1024_S1024x128_0_0)).emb x)) = (v193 P c) := funext fun x => (pay7 _ x).trans (val_zy P c 0 x)
  have e' : (⟨(fun x => S P (nb 1 c) ((Rect.unit (s := S1024x1024) ![0, coff 0] ![1024, 128] (inb_S1024x1024_S1024x128_0_0)).emb x)), k0_pay7 (F := F) (fun x => S P (nb 1 c) ((Rect.unit (s := S1024x1024) ![0, coff 0] ![1024, 128] (inb_S1024x1024_S1024x128_0_0)).emb x))⟩ : Σ' (_ : Vec F S1024x128 .bf16), FVec F S1024x128 .bf16) = ⟨v189 P c, v193 P c⟩ :=
    congrArg (PSigma.mk (v189 P c)) e
  iapply (Entails.of_eq (congrArg Q e'.symm))
  iapply Hk
  isplitl [Hcs1_1_0]; · iexact Hcs1_1_0
  isplitl [Hcs2_1_0]; · iexact Hcs2_1_0
  isplitl [HV1_1_0]; · iexact HV1_1_0
  isplitl [Hyr0]; · iexact Hyr0
  isplitl [Hzu1_0]; · iexists _; iexact Hzu1_0
  iexact HO

/-- Part 7 of the body. -/
theorem part7 (v2 : BitVec 32) (v5 : BitVec 32) (v8 : BitVec 32) (v19 : BitVec 32) (v23 : BitVec 32) (v26 : BitVec 32) (v27 : BitVec 32) {Q : (Σ' (v224 : BitVec 32), BitVec 32) → sProp 𝕄} :
    iprop(Per P K c ∗ (∃ f, at_ c cc0_scratch2 (hw c 1 0) fullShare f) ∗ (∃ f, at_ c cc0_stg1_0 (ow c 1 0) fullShare f) ∗ (∃ f, at_ (nb 2 c) cc0_scratch3 (hw c 1 0) fullShare f) ∗ Tok c 2 0 1 ∗ at_ c cc0_stg0_0 (cw 3) fullShare.left (P c) ∗ (∃ f, at_ (nb 0 c) cc0_scratch0 (cw 3) fullShare f) ∗ Tok c 0 3 0 ∗ Ow c [(2, 0), (0, 3), (1, 2), (2, 2), (2, 1), (1, 3), (2, 3), (2, 2), (2, 3)])
      ⊢ iprop((∀ u, ∀ w, (at_ c cc0_stg1_0 (ow c 1 0) fullShare (Out P c) ∗ Cr c 2 0 0 ∗ Cr c 0 0 3 ∗ Ow c [(1, 2), (2, 2), (2, 1), (1, 3), (2, 3), (2, 2), (2, 3)]) -∗ Q ⟨u, w⟩)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v19 v23 v26 v27 (v189 P c) (v193 P c)) Q) := by
  rw [k0_part7_eq_skeleton]
  unfold k0_part7_skel
  simp only [semSignalWord, semWaitWord, Prog.lift, Prog.bind_op, Prog.bind_ret, Prog.pure_eq_ret]
  iintro ⟨#HP, Hzu1_0, Hou1_0, Hdz1_0, Ht2_0_1, HpL3, Hdx3, Ht0_3_0, HO⟩ Hk
  icases Hzu1_0 with ⟨%fz, Hzu1_0⟩
  iapply (step_store c 4 rfl (sz := S1024x128.size) (off7 c) (W := hw c 1 0) rfl (Z P c) (fun _ => rfl)) $$ [Hzu1_0]
  · iexact Hzu1_0
  iintro Hz10
  icases Hou1_0 with ⟨%fo, Hou1_0⟩
  iapply (step_load c 1 rfl (sz := S1024x128.size) (off8 c) (W := ow c 1 0) rfl (q := fullShare) (f := fo)) $$ [Hou1_0]
  · iexact Hou1_0
  iintro Hou1_0
  iapply (step_store c 1 rfl (sz := S1024x128.size) (off8 c) (W := ow c 1 0) rfl (Out P c) (fun x => (pay8 _ x).trans (val_oy P c 0 (i2 := off7 c ▸ k0_off7_inb c) x))) $$ [Hou1_0]
  · iexact Hou1_0
  iintro Ho1_0
  iapply (send_z1 P K c _ 0 (dev11 c) [(0, 3), (1, 2), (2, 2), (2, 1), (1, 3), (2, 3), (2, 2), (2, 3)] (off9 c) (off9 c) rfl rfl rfl) $$ [Hz10 Hdz1_0 Ht2_0_1 HO]
  · isplitr; · iexact HP
    isplitl [Hz10]; · iexact Hz10
    isplitl [Hdz1_0]; · iexact Hdz1_0
    isplitl [Ht2_0_1]; · iexact Ht2_0_1
    iexact HO
  iintro ⟨Hcs2_0_1, HO⟩
  iapply (send_x P K c _ 3 (dev12 c) [(1, 2), (2, 2), (2, 1), (1, 3), (2, 3), (2, 2), (2, 3)] rfl rfl rfl rfl rfl) $$ [HpL3 Hdx3 Ht0_3_0 HO]
  · isplitr; · iexact HP
    isplitl [HpL3]; · iexact HpL3
    isplitl [Hdx3]; · iexact Hdx3
    isplitl [Ht0_3_0]; · iexact Ht0_3_0
    iexact HO
  iintro ⟨Hcs0_3_0, HO⟩
  rw [wp_ret]; imodintro
  iapply Hk
  isplitl [Ho1_0]; · iexact Ho1_0
  isplitl [Hcs2_0_1]; · iexact Hcs2_0_1
  isplitl [Hcs0_3_0]; · iexact Hcs0_3_0
  iexact HO

/-- Part 8 of the body. -/
theorem part8 (v2 : BitVec 32) (v8 : BitVec 32) (v20 : BitVec 32) (v24 : BitVec 32) (v27 : BitVec 32) (v224 : BitVec 32) (v225 : BitVec 32) {Q : (BitVec 32) → sProp 𝕄} :
    iprop(Per P K c ∗ Cr c 0 1 2 ∗ At c 0 1 2 ∗ at_ c cc0_stg0_0 (cw 2) fullShare.right (P c) ∗ (∃ f, at_ c cc0_scratch2 (hw c 0 2) fullShare f) ∗ (∃ f, at_ c cc0_stg1_0 (ow c 0 2) fullShare f) ∗ (∃ f, at_ (nb 1 c) cc0_scratch1 (cw 2) fullShare f) ∗ Tok c 1 2 0 ∗ Ow c [(1, 2), (2, 2), (2, 1), (1, 3), (2, 3), (2, 2), (2, 3)])
      ⊢ iprop((∀ w, (semVal (cell c 0 1 2) 0 ∗ at_ c cc0_stg0_0 (cw 2) fullShare.right (P c) ∗ at_ c cc0_scratch0 (cw 2) fullShare (P (nb 0 c)) ∗ at_ c cc0_scratch2 (hw c 0 2) fullShare.right (Z P c) ∗ at_ c cc0_stg1_0 (ow c 0 2) fullShare (Out P c) ∗ Cr c 1 0 2 ∗ Ow c [(2, 2), (2, 1), (1, 3), (2, 3), (2, 2), (2, 3)]) -∗ Q w)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v8 v20 v24 v27 v224 v225) Q) := by
  rw [k0_part8_eq_skeleton]
  unfold k0_part8_skel
  simp only [semSignalWord, semWaitWord, Prog.lift, Prog.bind_op, Prog.bind_ret, Prog.pure_eq_ret]
  iintro ⟨#HP, Hcr0_2_0, HA0_1_2, HpR2, Hzu0_2, Hou0_2, Hdy2, Ht1_2_0, HO⟩ Hk
  iapply (step_wait P K c 0 (by decide) 1 2 rfl rfl [(1, 2), (2, 2), (2, 1), (1, 3), (2, 3), (2, 2), (2, 3)] (by decide)) $$ [Hcr0_2_0 HA0_1_2 HO]
  · isplitr; · iexact HP
    isplitl [Hcr0_2_0]; · iexact Hcr0_2_0
    isplitl [HA0_1_2]; · iexact HA0_1_2
    iexact HO
  iintro ⟨Hxr2, HV0_1_2, HO⟩
  ihave Hxr2 := (Entails.of_eq (show pay P c 0 1 2 0 = at_ c cc0_scratch0 (cw 2) fullShare (P (nb 0 c)) from rfl)) $$ Hxr2
  iapply (step_load c 0 rfl (sz := S1024x256.size) (off' := ![0, coff 2]) rfl (W := cw 2) rfl (q := fullShare.right) (f := P c)) $$ [HpR2]
  · iexact HpR2
  iintro HpR2
  iapply (step_load c 2 rfl (sz := S1024x256.size) (off' := ![0, coff 2]) rfl (W := cw 2) rfl (q := fullShare) (f := P (nb 0 c))) $$ [Hxr2]
  · iexact Hxr2
  iintro Hxr2
  icases Hzu0_2 with ⟨%fz, Hzu0_2⟩
  iapply (step_load c 4 rfl (sz := S1024x256.size) (off10 c) (W := hw c 0 2) rfl (q := fullShare) (f := fz)) $$ [Hzu0_2]
  · iexact Hzu0_2
  iintro Hzu0_2
  iapply (step_store c 4 rfl (sz := S1024x256.size) (off10 c) (W := hw c 0 2) rfl (Z P c) (fun x => (pay10 _ _ x).trans (val_zx P c 2 x))) $$ [Hzu0_2]
  · iexact Hzu0_2
  iintro Hz
  ihave Hz := (Entails.of_eq (halves c cc0_scratch2 (hw c 0 2) (Z P c))) $$ Hz
  icases Hz with ⟨HzL2, HzR2⟩
  icases Hou0_2 with ⟨%fo, Hou0_2⟩
  iapply (step_load c 1 rfl (sz := S1024x256.size) (off5_384 c) (W := ow c 0 2) rfl (q := fullShare) (f := fo)) $$ [Hou0_2]
  · iexact Hou0_2
  iintro Hou0_2
  iapply (step_store c 1 rfl (sz := S1024x256.size) (off5_384 c) (W := ow c 0 2) rfl (Out P c) (fun x => (pay11 _ _ x).trans (val_ox P c 2 (i2 := off10 c ▸ k0_off10_inb c) x))) $$ [Hou0_2]
  · iexact Hou0_2
  iintro Ho0_2
  iapply (send_y P K c _ 2 (dev13 c) [(2, 2), (2, 1), (1, 3), (2, 3), (2, 2), (2, 3)] (off11 c) rfl rfl rfl rfl) $$ [HzL2 Hdy2 Ht1_2_0 HO]
  · isplitr; · iexact HP
    isplitl [HzL2]; · iexact HzL2
    isplitl [Hdy2]; · iexact Hdy2
    isplitl [Ht1_2_0]; · iexact Ht1_2_0
    iexact HO
  iintro ⟨Hcs1_2_0, HO⟩
  rw [wp_ret]; imodintro
  iapply Hk
  isplitl [HV0_1_2]; · iexact HV0_1_2
  isplitl [HpR2]; · iexact HpR2
  isplitl [Hxr2]; · iexact Hxr2
  isplitl [HzR2]; · iexact HzR2
  isplitl [Ho0_2]; · iexact Ho0_2
  isplitl [Hcs1_2_0]; · iexact Hcs1_2_0
  iexact HO

end Parts

end Cert.GradProof
-- ==== Proof.Body2.lean ====
/-
# The body, second third

The parts up to the second chunk's first arrival along z. Each theorem says what its part takes and what it leaves.
-/
module

public import proofs.«01_k».proof.Proof.Chunks

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (P : Dev nD → CP (F := F)) (K : GSem nD τ sig → ℕ) (c : Dev nD)

/-- Part 9 of the body. -/
theorem part9 (v2 : BitVec 32) (v5 : BitVec 32) (v8 : BitVec 32) (v20 : BitVec 32) (v23 : BitVec 32) (v26 : BitVec 32) (v27 : BitVec 32) (v258 : BitVec 32) {Q : (Σ' (v291 : BitVec 32), BitVec 32) → sProp 𝕄} :
    iprop(Per P K c ∗ at_ c cc0_scratch2 (hw c 0 2) fullShare.right (Z P c) ∗ (∃ f, at_ (nb 2 c) cc0_scratch3 (hw c 0 2) fullShare f) ∗ Tok c 2 2 0 ∗ Cr c 1 1 1 ∗ At c 1 1 1 ∗ (∃ f, at_ c cc0_scratch2 (hw c 1 1) fullShare f) ∗ (∃ f, at_ c cc0_stg1_0 (ow c 1 1) fullShare f) ∗ Ow c [(2, 2), (2, 1), (1, 3), (2, 3), (2, 2), (2, 3)])
      ⊢ iprop((∀ u, ∀ w, (Cr c 2 0 2 ∗ semVal (cell c 1 1 1) 0 ∗ at_ c cc0_scratch1 (cw 1) fullShare (S P (nb 1 c)) ∗ at_ c cc0_scratch2 (hw c 1 1) fullShare (Z P c) ∗ at_ c cc0_stg1_0 (ow c 1 1) fullShare (Out P c) ∗ Ow c [(2, 1), (1, 3), (2, 3), (2, 2), (2, 3)]) -∗ Q ⟨u, w⟩)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v20 v23 v26 v27 v258) Q) := by
  rw [k0_part9_eq_skeleton]
  unfold k0_part9_skel
  simp only [semSignalWord, semWaitWord, Prog.lift, Prog.bind_op, Prog.bind_ret, Prog.pure_eq_ret]
  iintro ⟨#HP, HzR2, Hdz0_2, Ht2_2_0, Hcr1_1_0, HA1_1_1, Hzu1_1, Hou1_1, HO⟩ Hk
  iapply (send_z0 P K c _ 2 (dev14 c) [(2, 1), (1, 3), (2, 3), (2, 2), (2, 3)] (off11 c) (off11 c) rfl rfl rfl) $$ [HzR2 Hdz0_2 Ht2_2_0 HO]
  · isplitr; · iexact HP
    isplitl [HzR2]; · iexact HzR2
    isplitl [Hdz0_2]; · iexact Hdz0_2
    isplitl [Ht2_2_0]; · iexact Ht2_2_0
    iexact HO
  iintro ⟨Hcs2_2_0, HO⟩
  iapply (step_wait P K c 1 (by decide) 1 1 rfl rfl [(2, 1), (1, 3), (2, 3), (2, 2), (2, 3)] (by decide)) $$ [Hcr1_1_0 HA1_1_1 HO]
  · isplitr; · iexact HP
    isplitl [Hcr1_1_0]; · iexact Hcr1_1_0
    isplitl [HA1_1_1]; · iexact HA1_1_1
    iexact HO
  iintro ⟨Hyr1, HV1_1_1, HO⟩
  ihave Hyr1 := (Entails.of_eq (show pay P c 1 1 1 0 = at_ c cc0_scratch1 (cw 1) fullShare (S P (nb 1 c)) from rfl)) $$ Hyr1
  iapply (step_load c 3 rfl (sz := S1024x256.size) (off' := ![0, coff 1]) rfl (W := cw 1) rfl (q := fullShare) (f := S P (nb 1 c))) $$ [Hyr1]
  · iexact Hyr1
  iintro Hyr1
  icases Hzu1_1 with ⟨%fz, Hzu1_1⟩
  iapply (step_load c 4 rfl (sz := S1024x256.size) (off12 c) (W := hw c 1 1) rfl (q := fullShare) (f := fz)) $$ [Hzu1_1]
  · iexact Hzu1_1
  iintro Hzu1_1
  iapply (step_store c 4 rfl (sz := S1024x256.size) (off12 c) (W := hw c 1 1) rfl (Z P c) (fun x => (pay12 _ x).trans (val_zy P c 1 x))) $$ [Hzu1_1]
  · iexact Hzu1_1
  iintro Hz11
  icases Hou1_1 with ⟨%fo, Hou1_1⟩
  iapply (step_load c 1 rfl (sz := S1024x256.size) (off13_128 c) (W := ow c 1 1) rfl (q := fullShare) (f := fo)) $$ [Hou1_1]
  · iexact Hou1_1
  iintro Hou1_1
  iapply (step_store c 1 rfl (sz := S1024x256.size) (off13_128 c) (W := ow c 1 1) rfl (Out P c) (fun x => (pay13 _ x).trans (val_oy P c 1 (i2 := off12 c ▸ k0_off12_inb c) x))) $$ [Hou1_1]
  · iexact Hou1_1
  iintro Ho1_1
  rw [wp_ret]; imodintro
  iapply Hk
  isplitl [Hcs2_2_0]; · iexact Hcs2_2_0
  isplitl [HV1_1_1]; · iexact HV1_1_1
  isplitl [Hyr1]; · iexact Hyr1
  isplitl [Hz11]; · iexact Hz11
  isplitl [Ho1_1]; · iexact Ho1_1
  iexact HO

/-- Part 10 of the body. -/
theorem part10 (v2 : BitVec 32) (v5 : BitVec 32) (v23 : BitVec 32) (v29 : BitVec 32) (v291 : BitVec 32) (c4_i32_202 : BitVec 32) {Q : (FVec F S2048x128 .f32) → sProp 𝕄} :
    iprop(Per P K c ∗ at_ c cc0_scratch2 (hw c 1 1) fullShare (Z P c) ∗ (∃ f, at_ (nb 2 c) cc0_scratch3 (hw c 1 1) fullShare f) ∗ Tok c 2 1 1 ∗ Cr c 2 1 0 ∗ At c 2 1 0 ∗ Cr c 2 1 0 ∗ Ow c [(2, 1), (1, 3), (2, 3), (2, 2), (2, 3)])
      ⊢ iprop(((Cr c 2 0 1 ∗ semVal (cell c 2 1 0) 0 ∗ at_ c cc0_scratch3 (zw 0) fullShare (Z P (nb 2 c)) ∗ Ow c [(1, 3), (2, 3), (2, 2), (2, 3)]) -∗ Q (v323 P c))
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v23 v29 v291 c4_i32_202) Q) := by
  rw [k0_part10_eq_skeleton]
  unfold k0_part10_skel
  simp only [semSignalWord, semWaitWord, Prog.lift, Prog.bind_op, Prog.bind_ret, Prog.pure_eq_ret]
  iintro ⟨#HP, Hz11, Hdz1_1, Ht2_1_1, Hcr2_0_0, HA2_1_0, Hcr2_0_1, HO⟩ Hk
  iapply (send_z1 P K c _ 1 (dev15 c) [(1, 3), (2, 3), (2, 2), (2, 3)] (off14 c) (off14 c) rfl rfl rfl) $$ [Hz11 Hdz1_1 Ht2_1_1 HO]
  · isplitr; · iexact HP
    isplitl [Hz11]; · iexact Hz11
    isplitl [Hdz1_1]; · iexact Hdz1_1
    isplitl [Ht2_1_1]; · iexact Ht2_1_1
    iexact HO
  iintro ⟨Hcs2_1_1, HO⟩
  iapply (step_wait_z1 P K c 1 0 rfl rfl [(1, 3), (2, 3), (2, 2), (2, 3)] (by decide)) $$ [Hcr2_0_0 HA2_1_0 HO]
  · isplitr; · iexact HP
    isplitl [Hcr2_0_0]; · iexact Hcr2_0_0
    isplitl [HA2_1_0]; · iexact HA2_1_0
    iexact HO
  iintro ⟨HM1_0, HO⟩
  iapply (step_wait_z2 P K c 1 0 rfl rfl [(1, 3), (2, 3), (2, 2), (2, 3)] (by decide)) $$ [Hcr2_0_1 HM1_0 HO]
  · isplitr; · iexact HP
    isplitl [Hcr2_0_1]; · iexact Hcr2_0_1
    isplitl [HM1_0]; · iexact HM1_0
    iexact HO
  iintro ⟨Hzr0_0, Hzr1_0, HV2_1_0, HO⟩
  ihave Hzr0_0 := (Entails.of_eq (show pay P c 2 1 0 0 = at_ c cc0_scratch3 (hw c 0 0) fullShare (Z P (nb 2 c)) from rfl)) $$ Hzr0_0
  ihave Hzr1_0 := (Entails.of_eq (show pay P c 2 1 0 1 = at_ c cc0_scratch3 (hw c 1 0) fullShare (Z P (nb 2 c)) from rfl)) $$ Hzr1_0
  ihave Hzrw0 := (Entails.of_eq (pair_zr c 0 fullShare (Z P (nb 2 c))).symm) $$ [Hzr0_0 Hzr1_0]
  · isplitl [Hzr0_0]; · iexact Hzr0_0
    iexact Hzr1_0
  iapply (step_load c 5 rfl (sz := S2048x128.size) (off' := ![0, coff 0]) rfl (W := zw 0) rfl (q := fullShare) (f := Z P (nb 2 c))) $$ [Hzrw0]
  · iexact Hzrw0
  iintro Hzrw0
  rw [wp_ret]; imodintro
  have e : k0_pay14 (F := F) (fun x => Z P (nb 2 c) ((Rect.unit (s := S2048x1024) ![0, coff 0] ![2048, 128] (inb_S2048x1024_S2048x128_0_0)).emb x)) = (v323 P c) := funext fun x => (pay14 _ x).trans (val_oz P c 0 x)
  iapply (Entails.of_eq (congrArg (fun z => Q z) e.symm))
  iapply Hk
  isplitl [Hcs2_1_1]; · iexact Hcs2_1_1
  isplitl [HV2_1_0]; · iexact HV2_1_0
  isplitl [Hzrw0]; · iexact Hzrw0
  iexact HO

/-- Part 11 of the body. -/
theorem part11 (v2 : BitVec 32) (v5 : BitVec 32) (v8 : BitVec 32) (v19 : BitVec 32) (v20 : BitVec 32) (v24 : BitVec 32) (v27 : BitVec 32) {Q : (PUnit) → sProp 𝕄} :
    iprop(Per P K c ∗ (∃ f, at_ c cc0_stg1_0 (oz c 0) fullShare f) ∗ Cr c 0 1 3 ∗ At c 0 1 3 ∗ at_ c cc0_stg0_0 (cw 3) fullShare.right (P c) ∗ (∃ f, at_ c cc0_scratch2 (hw c 0 3) fullShare f) ∗ (∃ f, at_ c cc0_stg1_0 (ow c 0 3) fullShare f) ∗ Ow c [(1, 3), (2, 3), (2, 2), (2, 3)])
      ⊢ iprop(((at_ c cc0_stg1_0 (oz c 0) fullShare (Out P c) ∗ semVal (cell c 0 1 3) 0 ∗ at_ c cc0_stg0_0 (cw 3) fullShare.right (P c) ∗ at_ c cc0_scratch0 (cw 3) fullShare (P (nb 0 c)) ∗ at_ c cc0_scratch2 (hw c 0 3) fullShare.left (Z P c) ∗ at_ c cc0_scratch2 (hw c 0 3) fullShare.right (Z P c) ∗ at_ c cc0_stg1_0 (ow c 0 3) fullShare (Out P c) ∗ Ow c [(1, 3), (2, 3), (2, 2), (2, 3)]) -∗ Q ⟨⟩)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v19 v20 v24 v27 (v323 P c)) Q) := by
  rw [k0_part11_eq_skeleton]
  unfold k0_part11_skel
  simp only [semSignalWord, semWaitWord, Prog.lift, Prog.bind_op, Prog.bind_ret, Prog.pure_eq_ret]
  iintro ⟨#HP, Hqu0, Hcr0_3_0, HA0_1_3, HpR3, Hzu0_3, Hou0_3, HO⟩ Hk
  icases Hqu0 with ⟨%fq, Hqu0⟩
  iapply (step_load c 1 rfl (sz := S2048x128.size) (off15 c) (W := oz c 0) rfl (q := fullShare) (f := fq)) $$ [Hqu0]
  · iexact Hqu0
  iintro Hqu0
  iapply (step_store c 1 rfl (sz := S2048x128.size) (off15 c) (W := oz c 0) rfl (Out P c) (fun _ => rfl)) $$ [Hqu0]
  · iexact Hqu0
  iintro Hq0
  iapply (step_wait P K c 0 (by decide) 1 3 rfl rfl [(1, 3), (2, 3), (2, 2), (2, 3)] (by decide)) $$ [Hcr0_3_0 HA0_1_3 HO]
  · isplitr; · iexact HP
    isplitl [Hcr0_3_0]; · iexact Hcr0_3_0
    isplitl [HA0_1_3]; · iexact HA0_1_3
    iexact HO
  iintro ⟨Hxr3, HV0_1_3, HO⟩
  ihave Hxr3 := (Entails.of_eq (show pay P c 0 1 3 0 = at_ c cc0_scratch0 (cw 3) fullShare (P (nb 0 c)) from rfl)) $$ Hxr3
  iapply (step_load c 0 rfl (sz := S1024x384.size) (off' := ![0, coff 3]) rfl (W := cw 3) rfl (q := fullShare.right) (f := P c)) $$ [HpR3]
  · iexact HpR3
  iintro HpR3
  iapply (step_load c 2 rfl (sz := S1024x384.size) (off' := ![0, coff 3]) rfl (W := cw 3) rfl (q := fullShare) (f := P (nb 0 c))) $$ [Hxr3]
  · iexact Hxr3
  iintro Hxr3
  icases Hzu0_3 with ⟨%fz, Hzu0_3⟩
  iapply (step_load c 4 rfl (sz := S1024x384.size) (off16 c) (W := hw c 0 3) rfl (q := fullShare) (f := fz)) $$ [Hzu0_3]
  · iexact Hzu0_3
  iintro Hzu0_3
  iapply (step_store c 4 rfl (sz := S1024x384.size) (off16 c) (W := hw c 0 3) rfl (Z P c) (fun x => (pay16 _ _ x).trans (val_zx P c 3 x))) $$ [Hzu0_3]
  · iexact Hzu0_3
  iintro Hz
  ihave Hz := (Entails.of_eq (halves c cc0_scratch2 (hw c 0 3) (Z P c))) $$ Hz
  icases Hz with ⟨HzL3, HzR3⟩
  icases Hou0_3 with ⟨%fo, Hou0_3⟩
  iapply (step_load c 1 rfl (sz := S1024x384.size) (off17 c) (W := ow c 0 3) rfl (q := fullShare) (f := fo)) $$ [Hou0_3]
  · iexact Hou0_3
  iintro Hou0_3
  iapply (step_store c 1 rfl (sz := S1024x384.size) (off17 c) (W := ow c 0 3) rfl (Out P c) (fun x => (pay17 _ _ x).trans (val_ox P c 3 (i2 := off16 c ▸ k0_off16_inb c) x))) $$ [Hou0_3]
  · iexact Hou0_3
  iintro Ho0_3
  rw [wp_ret]; imodintro
  iapply Hk
  isplitl [Hq0]; · iexact Hq0
  isplitl [HV0_1_3]; · iexact HV0_1_3
  isplitl [HpR3]; · iexact HpR3
  isplitl [Hxr3]; · iexact Hxr3
  isplitl [HzL3]; · iexact HzL3
  isplitl [HzR3]; · iexact HzR3
  isplitl [Ho0_3]; · iexact Ho0_3
  iexact HO

/-- Part 12 of the body. -/
theorem part12 (v2 : BitVec 32) (v5 : BitVec 32) (v8 : BitVec 32) (v20 : BitVec 32) (v23 : BitVec 32) (v26 : BitVec 32) (v27 : BitVec 32) {Q : (Σ' (v389 : FVec F S1024x256 .f32), BitVec 32) → sProp 𝕄} :
    iprop(Per P K c ∗ at_ c cc0_scratch2 (hw c 0 3) fullShare.left (Z P c) ∗ (∃ f, at_ (nb 1 c) cc0_scratch1 (cw 3) fullShare f) ∗ Tok c 1 3 0 ∗ at_ c cc0_scratch2 (hw c 0 3) fullShare.right (Z P c) ∗ (∃ f, at_ (nb 2 c) cc0_scratch3 (hw c 0 3) fullShare f) ∗ Tok c 2 3 0 ∗ Cr c 1 1 2 ∗ At c 1 1 2 ∗ (∃ f, at_ c cc0_scratch2 (hw c 1 2) fullShare f) ∗ Ow c [(1, 3), (2, 3), (2, 2), (2, 3)])
      ⊢ iprop((∀ w, (Cr c 1 0 3 ∗ Cr c 2 0 3 ∗ semVal (cell c 1 1 2) 0 ∗ at_ c cc0_scratch1 (cw 2) fullShare (S P (nb 1 c)) ∗ at_ c cc0_scratch2 (hw c 1 2) fullShare (Z P c) ∗ Ow c [(2, 2), (2, 3)]) -∗ Q ⟨(v389 P c), w⟩)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v20 v23 v26 v27) Q) := by
  rw [k0_part12_eq_skeleton]
  unfold k0_part12_skel
  simp only [semSignalWord, semWaitWord, Prog.lift, Prog.bind_op, Prog.bind_ret, Prog.pure_eq_ret]
  iintro ⟨#HP, HzL3, Hdy3, Ht1_3_0, HzR3, Hdz0_3, Ht2_3_0, Hcr1_2_0, HA1_1_2, Hzu1_2, HO⟩ Hk
  iapply (send_y P K c _ 3 (dev16 c) [(2, 3), (2, 2), (2, 3)] (off18 c) rfl rfl rfl rfl) $$ [HzL3 Hdy3 Ht1_3_0 HO]
  · isplitr; · iexact HP
    isplitl [HzL3]; · iexact HzL3
    isplitl [Hdy3]; · iexact Hdy3
    isplitl [Ht1_3_0]; · iexact Ht1_3_0
    iexact HO
  iintro ⟨Hcs1_3_0, HO⟩
  iapply (send_z0 P K c _ 3 (dev17 c) [(2, 2), (2, 3)] (off18 c) (off18 c) rfl rfl rfl) $$ [HzR3 Hdz0_3 Ht2_3_0 HO]
  · isplitr; · iexact HP
    isplitl [HzR3]; · iexact HzR3
    isplitl [Hdz0_3]; · iexact Hdz0_3
    isplitl [Ht2_3_0]; · iexact Ht2_3_0
    iexact HO
  iintro ⟨Hcs2_3_0, HO⟩
  iapply (step_wait P K c 1 (by decide) 1 2 rfl rfl [(2, 2), (2, 3)] (by decide)) $$ [Hcr1_2_0 HA1_1_2 HO]
  · isplitr; · iexact HP
    isplitl [Hcr1_2_0]; · iexact Hcr1_2_0
    isplitl [HA1_1_2]; · iexact HA1_1_2
    iexact HO
  iintro ⟨Hyr2, HV1_1_2, HO⟩
  ihave Hyr2 := (Entails.of_eq (show pay P c 1 1 2 0 = at_ c cc0_scratch1 (cw 2) fullShare (S P (nb 1 c)) from rfl)) $$ Hyr2
  iapply (step_load c 3 rfl (sz := S1024x256.size) (off' := ![0, coff 2]) rfl (W := cw 2) rfl (q := fullShare) (f := S P (nb 1 c))) $$ [Hyr2]
  · iexact Hyr2
  iintro Hyr2
  icases Hzu1_2 with ⟨%fz, Hzu1_2⟩
  iapply (step_load c 4 rfl (sz := S1024x256.size) (off19 c) (W := hw c 1 2) rfl (q := fullShare) (f := fz)) $$ [Hzu1_2]
  · iexact Hzu1_2
  iintro Hzu1_2
  iapply (step_store c 4 rfl (sz := S1024x256.size) (off19 c) (W := hw c 1 2) rfl (Z P c) (fun x => (pay18 _ x).trans (val_zy P c 2 x))) $$ [Hzu1_2]
  · iexact Hzu1_2
  iintro Hz12
  rw [wp_ret]; imodintro
  have e : k0_pay19 (F := F) (fun x => S P (nb 1 c) ((Rect.unit (s := S1024x1024) ![0, coff 2] ![1024, 256] (inb_S1024x1024_S1024x256_0_384)).emb x)) = (v389 P c) := funext fun x => (pay19 _ x).trans (val_oy P c 2 (i2 := off19 c ▸ k0_off19_inb c) x)
  iapply (Entails.of_eq (congrArg (fun z => Q ⟨z, _⟩) e.symm))
  iapply Hk
  isplitl [Hcs1_3_0]; · iexact Hcs1_3_0
  isplitl [Hcs2_3_0]; · iexact Hcs2_3_0
  isplitl [HV1_1_2]; · iexact HV1_1_2
  isplitl [Hyr2]; · iexact Hyr2
  isplitl [Hz12]; · iexact Hz12
  iexact HO

/-- Part 13 of the body. -/
theorem part13 (v2 : BitVec 32) (v5 : BitVec 32) (v23 : BitVec 32) (v390 : BitVec 32) {Q : (PUnit) → sProp 𝕄} :
    iprop(Per P K c ∗ (∃ f, at_ c cc0_stg1_0 (ow c 1 2) fullShare f) ∗ at_ c cc0_scratch2 (hw c 1 2) fullShare (Z P c) ∗ (∃ f, at_ (nb 2 c) cc0_scratch3 (hw c 1 2) fullShare f) ∗ Tok c 2 2 1 ∗ Cr c 2 1 1 ∗ At c 2 1 1 ∗ Ow c [(2, 2), (2, 3)])
      ⊢ iprop(((at_ c cc0_stg1_0 (ow c 1 2) fullShare (Out P c) ∗ Cr c 2 0 2 ∗ Mid P c 1 1 ∗ Ow c [(2, 3)]) -∗ Q ⟨⟩)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v23 (v389 P c) v390) Q) := by
  rw [k0_part13_eq_skeleton]
  unfold k0_part13_skel
  simp only [semSignalWord, semWaitWord, Prog.lift, Prog.bind_op, Prog.bind_ret, Prog.pure_eq_ret]
  iintro ⟨#HP, Hou1_2, Hz12, Hdz1_2, Ht2_2_1, Hcr2_1_0, HA2_1_1, HO⟩ Hk
  icases Hou1_2 with ⟨%fo, Hou1_2⟩
  iapply (step_load c 1 rfl (sz := S1024x256.size) (off13_384 c) (W := ow c 1 2) rfl (q := fullShare) (f := fo)) $$ [Hou1_2]
  · iexact Hou1_2
  iintro Hou1_2
  iapply (step_store c 1 rfl (sz := S1024x256.size) (off13_384 c) (W := ow c 1 2) rfl (Out P c) (fun _ => rfl)) $$ [Hou1_2]
  · iexact Hou1_2
  iintro Ho1_2
  iapply (send_z1 P K c _ 2 (dev18 c) [(2, 3)] (off20 c) (off20 c) rfl rfl rfl) $$ [Hz12 Hdz1_2 Ht2_2_1 HO]
  · isplitr; · iexact HP
    isplitl [Hz12]; · iexact Hz12
    isplitl [Hdz1_2]; · iexact Hdz1_2
    isplitl [Ht2_2_1]; · iexact Ht2_2_1
    iexact HO
  iintro ⟨Hcs2_2_1, HO⟩
  iapply (step_wait_z1 P K c 1 1 rfl rfl [(2, 3)] (by decide)) $$ [Hcr2_1_0 HA2_1_1 HO]
  · isplitr; · iexact HP
    isplitl [Hcr2_1_0]; · iexact Hcr2_1_0
    isplitl [HA2_1_1]; · iexact HA2_1_1
    iexact HO
  iintro ⟨HM1_1, HO⟩
  rw [wp_ret]; imodintro
  iapply Hk
  isplitl [Ho1_2]; · iexact Ho1_2
  isplitl [Hcs2_2_1]; · iexact Hcs2_2_1
  isplitl [HM1_1]; · iexact HM1_1
  iexact HO

end Parts

end Cert.GradProof
-- ==== Proof.Body3.lean ====
/-
# The body, last third

The remaining parts: the last arrivals, then the waits for every send. Each theorem says what its part takes and what it leaves.
-/
module

public import proofs.«01_k».proof.Proof.Chunks

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (P : Dev nD → CP (F := F)) (K : GSem nD τ sig → ℕ) (c : Dev nD)

/-- Part 14 of the body. -/
theorem part14 (v2 : BitVec 32) (v5 : BitVec 32) (v8 : BitVec 32) (v20 : BitVec 32) (v23 : BitVec 32) (v26 : BitVec 32) (v27 : BitVec 32) (v29 : BitVec 32) {Q : (PUnit) → sProp 𝕄} :
    iprop(Per P K c ∗ Cr c 2 1 1 ∗ Mid P c 1 1 ∗ (∃ f, at_ c cc0_stg1_0 (oz c 1) fullShare f) ∗ Cr c 1 1 3 ∗ At c 1 1 3 ∗ (∃ f, at_ c cc0_scratch2 (hw c 1 3) fullShare f) ∗ (∃ f, at_ c cc0_stg1_0 (ow c 1 3) fullShare f) ∗ Ow c [(2, 3)])
      ⊢ iprop(((semVal (cell c 2 1 1) 0 ∗ at_ c cc0_scratch3 (zw 1) fullShare (Z P (nb 2 c)) ∗ at_ c cc0_stg1_0 (oz c 1) fullShare (Out P c) ∗ semVal (cell c 1 1 3) 0 ∗ at_ c cc0_scratch1 (cw 3) fullShare (S P (nb 1 c)) ∗ at_ c cc0_scratch2 (hw c 1 3) fullShare (Z P c) ∗ at_ c cc0_stg1_0 (ow c 1 3) fullShare (Out P c) ∗ Ow c [(2, 3)]) -∗ Q ⟨⟩)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v20 v23 v26 v27 v29) Q) := by
  rw [k0_part14_eq_skeleton]
  unfold k0_part14_skel
  simp only [semSignalWord, semWaitWord, Prog.lift, Prog.bind_op, Prog.bind_ret, Prog.pure_eq_ret]
  iintro ⟨#HP, Hcr2_1_1, HM1_1, Hqu1, Hcr1_3_0, HA1_1_3, Hzu1_3, Hou1_3, HO⟩ Hk
  iapply (step_wait_z2 P K c 1 1 rfl rfl [(2, 3)] (by decide)) $$ [Hcr2_1_1 HM1_1 HO]
  · isplitr; · iexact HP
    isplitl [Hcr2_1_1]; · iexact Hcr2_1_1
    isplitl [HM1_1]; · iexact HM1_1
    iexact HO
  iintro ⟨Hzr0_1, Hzr1_1, HV2_1_1, HO⟩
  ihave Hzr0_1 := (Entails.of_eq (show pay P c 2 1 1 0 = at_ c cc0_scratch3 (hw c 0 1) fullShare (Z P (nb 2 c)) from rfl)) $$ Hzr0_1
  ihave Hzr1_1 := (Entails.of_eq (show pay P c 2 1 1 1 = at_ c cc0_scratch3 (hw c 1 1) fullShare (Z P (nb 2 c)) from rfl)) $$ Hzr1_1
  ihave Hzrw1 := (Entails.of_eq (pair_zr c 1 fullShare (Z P (nb 2 c))).symm) $$ [Hzr0_1 Hzr1_1]
  · isplitl [Hzr0_1]; · iexact Hzr0_1
    iexact Hzr1_1
  iapply (step_load c 5 rfl (sz := S2048x256.size) (off' := ![0, coff 1]) rfl (W := zw 1) rfl (q := fullShare) (f := Z P (nb 2 c))) $$ [Hzrw1]
  · iexact Hzrw1
  iintro Hzrw1
  icases Hqu1 with ⟨%fq, Hqu1⟩
  iapply (step_load c 1 rfl (sz := S2048x256.size) (off21_128 c) (W := oz c 1) rfl (q := fullShare) (f := fq)) $$ [Hqu1]
  · iexact Hqu1
  iintro Hqu1
  iapply (step_store c 1 rfl (sz := S2048x256.size) (off21_128 c) (W := oz c 1) rfl (Out P c) (fun x => (pay20 _ x).trans (val_oz P c 1 x))) $$ [Hqu1]
  · iexact Hqu1
  iintro Hq1
  iapply (step_wait P K c 1 (by decide) 1 3 rfl rfl [(2, 3)] (by decide)) $$ [Hcr1_3_0 HA1_1_3 HO]
  · isplitr; · iexact HP
    isplitl [Hcr1_3_0]; · iexact Hcr1_3_0
    isplitl [HA1_1_3]; · iexact HA1_1_3
    iexact HO
  iintro ⟨Hyr3, HV1_1_3, HO⟩
  ihave Hyr3 := (Entails.of_eq (show pay P c 1 1 3 0 = at_ c cc0_scratch1 (cw 3) fullShare (S P (nb 1 c)) from rfl)) $$ Hyr3
  iapply (step_load c 3 rfl (sz := S1024x384.size) (off' := ![0, coff 3]) rfl (W := cw 3) rfl (q := fullShare) (f := S P (nb 1 c))) $$ [Hyr3]
  · iexact Hyr3
  iintro Hyr3
  icases Hzu1_3 with ⟨%fz, Hzu1_3⟩
  iapply (step_load c 4 rfl (sz := S1024x384.size) (off22 c) (W := hw c 1 3) rfl (q := fullShare) (f := fz)) $$ [Hzu1_3]
  · iexact Hzu1_3
  iintro Hzu1_3
  iapply (step_store c 4 rfl (sz := S1024x384.size) (off22 c) (W := hw c 1 3) rfl (Z P c) (fun x => (pay21 _ x).trans (val_zy P c 3 x))) $$ [Hzu1_3]
  · iexact Hzu1_3
  iintro Hz13
  icases Hou1_3 with ⟨%fo, Hou1_3⟩
  iapply (step_load c 1 rfl (sz := S1024x384.size) (off23 c) (W := ow c 1 3) rfl (q := fullShare) (f := fo)) $$ [Hou1_3]
  · iexact Hou1_3
  iintro Hou1_3
  iapply (step_store c 1 rfl (sz := S1024x384.size) (off23 c) (W := ow c 1 3) rfl (Out P c) (fun x => (pay22 _ x).trans (val_oy P c 3 (i2 := off22 c ▸ k0_off22_inb c) x))) $$ [Hou1_3]
  · iexact Hou1_3
  iintro Ho1_3
  rw [wp_ret]; imodintro
  iapply Hk
  isplitl [HV2_1_1]; · iexact HV2_1_1
  isplitl [Hzrw1]; · iexact Hzrw1
  isplitl [Hq1]; · iexact Hq1
  isplitl [HV1_1_3]; · iexact HV1_1_3
  isplitl [Hyr3]; · iexact Hyr3
  isplitl [Hz13]; · iexact Hz13
  isplitl [Ho1_3]; · iexact Ho1_3
  iexact HO

/-- Part 15 of the body. -/
theorem part15 (v2 : BitVec 32) (v5 : BitVec 32) (v23 : BitVec 32) (v29 : BitVec 32) {Q : (BitVec 32) → sProp 𝕄} :
    iprop(Per P K c ∗ at_ c cc0_scratch2 (hw c 1 3) fullShare (Z P c) ∗ (∃ f, at_ (nb 2 c) cc0_scratch3 (hw c 1 3) fullShare f) ∗ Tok c 2 3 1 ∗ Cr c 2 1 2 ∗ At c 2 1 2 ∗ Cr c 2 1 2 ∗ (∃ f, at_ c cc0_stg1_0 (oz c 2) fullShare f) ∗ Ow c [(2, 3)])
      ⊢ iprop((∀ w, (Cr c 2 0 3 ∗ semVal (cell c 2 1 2) 0 ∗ at_ c cc0_scratch3 (zw 2) fullShare (Z P (nb 2 c)) ∗ at_ c cc0_stg1_0 (oz c 2) fullShare (Out P c) ∗ Ow c []) -∗ Q w)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v23 v29) Q) := by
  rw [k0_part15_eq_skeleton]
  unfold k0_part15_skel
  simp only [semSignalWord, semWaitWord, Prog.lift, Prog.bind_op, Prog.bind_ret, Prog.pure_eq_ret]
  iintro ⟨#HP, Hz13, Hdz1_3, Ht2_3_1, Hcr2_2_0, HA2_1_2, Hcr2_2_1, Hqu2, HO⟩ Hk
  iapply (send_z1 P K c _ 3 (dev19 c) [] (off24 c) (off24 c) rfl rfl rfl) $$ [Hz13 Hdz1_3 Ht2_3_1 HO]
  · isplitr; · iexact HP
    isplitl [Hz13]; · iexact Hz13
    isplitl [Hdz1_3]; · iexact Hdz1_3
    isplitl [Ht2_3_1]; · iexact Ht2_3_1
    iexact HO
  iintro ⟨Hcs2_3_1, HO⟩
  iapply (step_wait_z1 P K c 1 2 rfl rfl [] (by decide)) $$ [Hcr2_2_0 HA2_1_2 HO]
  · isplitr; · iexact HP
    isplitl [Hcr2_2_0]; · iexact Hcr2_2_0
    isplitl [HA2_1_2]; · iexact HA2_1_2
    iexact HO
  iintro ⟨HM1_2, HO⟩
  iapply (step_wait_z2 P K c 1 2 rfl rfl [] (by decide)) $$ [Hcr2_2_1 HM1_2 HO]
  · isplitr; · iexact HP
    isplitl [Hcr2_2_1]; · iexact Hcr2_2_1
    isplitl [HM1_2]; · iexact HM1_2
    iexact HO
  iintro ⟨Hzr0_2, Hzr1_2, HV2_1_2, HO⟩
  ihave Hzr0_2 := (Entails.of_eq (show pay P c 2 1 2 0 = at_ c cc0_scratch3 (hw c 0 2) fullShare (Z P (nb 2 c)) from rfl)) $$ Hzr0_2
  ihave Hzr1_2 := (Entails.of_eq (show pay P c 2 1 2 1 = at_ c cc0_scratch3 (hw c 1 2) fullShare (Z P (nb 2 c)) from rfl)) $$ Hzr1_2
  ihave Hzrw2 := (Entails.of_eq (pair_zr c 2 fullShare (Z P (nb 2 c))).symm) $$ [Hzr0_2 Hzr1_2]
  · isplitl [Hzr0_2]; · iexact Hzr0_2
    iexact Hzr1_2
  iapply (step_load c 5 rfl (sz := S2048x256.size) (off' := ![0, coff 2]) rfl (W := zw 2) rfl (q := fullShare) (f := Z P (nb 2 c))) $$ [Hzrw2]
  · iexact Hzrw2
  iintro Hzrw2
  icases Hqu2 with ⟨%fq, Hqu2⟩
  iapply (step_load c 1 rfl (sz := S2048x256.size) (off21_384 c) (W := oz c 2) rfl (q := fullShare) (f := fq)) $$ [Hqu2]
  · iexact Hqu2
  iintro Hqu2
  iapply (step_store c 1 rfl (sz := S2048x256.size) (off21_384 c) (W := oz c 2) rfl (Out P c) (fun x => (pay23 _ x).trans (val_oz P c 2 x))) $$ [Hqu2]
  · iexact Hqu2
  iintro Hq2
  rw [wp_ret]; imodintro
  iapply Hk
  isplitl [Hcs2_3_1]; · iexact Hcs2_3_1
  isplitl [HV2_1_2]; · iexact HV2_1_2
  isplitl [Hzrw2]; · iexact Hzrw2
  isplitl [Hq2]; · iexact Hq2
  iexact HO

/-- Part 16 of the body. -/
theorem part16 (v2 : BitVec 32) (v5 : BitVec 32) (v23 : BitVec 32) (v29 : BitVec 32) (c8_i32_342 : BitVec 32) {Q : (PUnit) → sProp 𝕄} :
    iprop(Per P K c ∗ Cr c 2 1 3 ∗ At c 2 1 3 ∗ Cr c 2 1 3 ∗ (∃ f, at_ c cc0_stg1_0 (oz c 3) fullShare f) ∗ Cr c 0 0 0 ∗ At c 0 0 0 ∗ Ow c [])
      ⊢ iprop(((semVal (cell c 2 1 3) 0 ∗ at_ c cc0_scratch3 (zw 3) fullShare (Z P (nb 2 c)) ∗ at_ c cc0_stg1_0 (oz c 3) fullShare (Out P c) ∗ at_ c cc0_stg0_0 (cw 0) fullShare.left (P c) ∗ semVal (cell c 0 0 0) 0 ∗ Ow c []) -∗ Q ⟨⟩)
          -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v23 v29 c8_i32_342) Q) := by
  rw [k0_part16_eq_skeleton]
  unfold k0_part16_skel
  simp only [semSignalWord, semWaitWord, Prog.lift, Prog.bind_op, Prog.bind_ret, Prog.pure_eq_ret]
  iintro ⟨#HP, Hcr2_3_0, HA2_1_3, Hcr2_3_1, Hqu3, Hcs0_0_0, HA0_0_0, HO⟩ Hk
  iapply (step_wait_z1 P K c 1 3 rfl rfl [] (by decide)) $$ [Hcr2_3_0 HA2_1_3 HO]
  · isplitr; · iexact HP
    isplitl [Hcr2_3_0]; · iexact Hcr2_3_0
    isplitl [HA2_1_3]; · iexact HA2_1_3
    iexact HO
  iintro ⟨HM1_3, HO⟩
  iapply (step_wait_z2 P K c 1 3 rfl rfl [] (by decide)) $$ [Hcr2_3_1 HM1_3 HO]
  · isplitr; · iexact HP
    isplitl [Hcr2_3_1]; · iexact Hcr2_3_1
    isplitl [HM1_3]; · iexact HM1_3
    iexact HO
  iintro ⟨Hzr0_3, Hzr1_3, HV2_1_3, HO⟩
  ihave Hzr0_3 := (Entails.of_eq (show pay P c 2 1 3 0 = at_ c cc0_scratch3 (hw c 0 3) fullShare (Z P (nb 2 c)) from rfl)) $$ Hzr0_3
  ihave Hzr1_3 := (Entails.of_eq (show pay P c 2 1 3 1 = at_ c cc0_scratch3 (hw c 1 3) fullShare (Z P (nb 2 c)) from rfl)) $$ Hzr1_3
  ihave Hzrw3 := (Entails.of_eq (pair_zr c 3 fullShare (Z P (nb 2 c))).symm) $$ [Hzr0_3 Hzr1_3]
  · isplitl [Hzr0_3]; · iexact Hzr0_3
    iexact Hzr1_3
  iapply (step_load c 5 rfl (sz := S2048x384.size) (off' := ![0, coff 3]) rfl (W := zw 3) rfl (q := fullShare) (f := Z P (nb 2 c))) $$ [Hzrw3]
  · iexact Hzrw3
  iintro Hzrw3
  icases Hqu3 with ⟨%fq, Hqu3⟩
  iapply (step_load c 1 rfl (sz := S2048x384.size) (off25 c) (W := oz c 3) rfl (q := fullShare) (f := fq)) $$ [Hqu3]
  · iexact Hqu3
  iintro Hqu3
  iapply (step_store c 1 rfl (sz := S2048x384.size) (off25 c) (W := oz c 3) rfl (Out P c) (fun x => (pay24 _ x).trans (val_oz P c 3 x))) $$ [Hqu3]
  · iexact Hqu3
  iintro Hq3
  iapply (step_wait P K c 0 (by decide) 0 0 rfl rfl [] (by decide)) $$ [Hcs0_0_0 HA0_0_0 HO]
  · isplitr; · iexact HP
    isplitl [Hcs0_0_0]; · iexact Hcs0_0_0
    isplitl [HA0_0_0]; · iexact HA0_0_0
    iexact HO
  iintro ⟨HpL0, HV0_0_0, HO⟩
  ihave HpL0 := (Entails.of_eq (show pay P c 0 0 0 0 = at_ c cc0_stg0_0 (cw 0) fullShare.left (P c) from rfl)) $$ HpL0
  rw [wp_ret]; imodintro
  iapply Hk
  isplitl [HV2_1_3]; · iexact HV2_1_3
  isplitl [Hzrw3]; · iexact Hzrw3
  isplitl [Hq3]; · iexact Hq3
  isplitl [HpL0]; · iexact HpL0
  isplitl [HV0_0_0]; · iexact HV0_0_0
  iexact HO

/-- Part 17 of the body. -/
theorem part17  {Q : (PUnit) → sProp 𝕄} :
    iprop(Per P K c ∗ Cr c 1 0 0 ∗ At c 1 0 0 ∗ Cr c 2 0 0 ∗ At c 2 0 0 ∗ Cr c 2 0 0 ∗ Cr c 0 0 1 ∗ At c 0 0 1 ∗ Cr c 1 0 1 ∗ At c 1 0 1 ∗ Ow c [])
      ⊢ iprop(((at_ c cc0_scratch2 (hw c 0 0) fullShare.left (Z P c) ∗ semVal (cell c 1 0 0) 0 ∗ at_ c cc0_scratch2 (hw c 0 0) fullShare.right (Z P c) ∗ at_ c cc0_scratch2 (hw c 1 0) fullShare (Z P c) ∗ semVal (cell c 2 0 0) 0 ∗ at_ c cc0_stg0_0 (cw 1) fullShare.left (P c) ∗ semVal (cell c 0 0 1) 0 ∗ at_ c cc0_scratch2 (hw c 0 1) fullShare.left (Z P c) ∗ semVal (cell c 1 0 1) 0 ∗ Ow c []) -∗ Q ⟨⟩)
          -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c ) Q) := by
  rw [k0_part17_eq_skeleton]
  unfold k0_part17_skel
  simp only [semSignalWord, semWaitWord, Prog.lift, Prog.bind_op, Prog.bind_ret, Prog.pure_eq_ret]
  iintro ⟨#HP, Hcs1_0_0, HA1_0_0, Hcs2_0_0, HA2_0_0, Hcs2_0_1, Hcs0_1_0, HA0_0_1, Hcs1_1_0, HA1_0_1, HO⟩ Hk
  iapply (step_wait P K c 1 (by decide) 0 0 rfl rfl [] (by decide)) $$ [Hcs1_0_0 HA1_0_0 HO]
  · isplitr; · iexact HP
    isplitl [Hcs1_0_0]; · iexact Hcs1_0_0
    isplitl [HA1_0_0]; · iexact HA1_0_0
    iexact HO
  iintro ⟨HzL0, HV1_0_0, HO⟩
  ihave HzL0 := (Entails.of_eq (show pay P c 1 0 0 0 = at_ c cc0_scratch2 (hw c 0 0) fullShare.left (Z P c) from rfl)) $$ HzL0
  iapply (step_wait_z1 P K c 0 0 rfl rfl [] (by decide)) $$ [Hcs2_0_0 HA2_0_0 HO]
  · isplitr; · iexact HP
    isplitl [Hcs2_0_0]; · iexact Hcs2_0_0
    isplitl [HA2_0_0]; · iexact HA2_0_0
    iexact HO
  iintro ⟨HM0_0, HO⟩
  iapply (step_wait_z2 P K c 0 0 rfl rfl [] (by decide)) $$ [Hcs2_0_1 HM0_0 HO]
  · isplitr; · iexact HP
    isplitl [Hcs2_0_1]; · iexact Hcs2_0_1
    isplitl [HM0_0]; · iexact HM0_0
    iexact HO
  iintro ⟨HzR0, Hz10, HV2_0_0, HO⟩
  ihave HzR0 := (Entails.of_eq (show pay P c 2 0 0 0 = at_ c cc0_scratch2 (hw c 0 0) fullShare.right (Z P c) from rfl)) $$ HzR0
  ihave Hz10 := (Entails.of_eq (show pay P c 2 0 0 1 = at_ c cc0_scratch2 (hw c 1 0) fullShare (Z P c) from rfl)) $$ Hz10
  iapply (step_wait P K c 0 (by decide) 0 1 rfl rfl [] (by decide)) $$ [Hcs0_1_0 HA0_0_1 HO]
  · isplitr; · iexact HP
    isplitl [Hcs0_1_0]; · iexact Hcs0_1_0
    isplitl [HA0_0_1]; · iexact HA0_0_1
    iexact HO
  iintro ⟨HpL1, HV0_0_1, HO⟩
  ihave HpL1 := (Entails.of_eq (show pay P c 0 0 1 0 = at_ c cc0_stg0_0 (cw 1) fullShare.left (P c) from rfl)) $$ HpL1
  iapply (step_wait P K c 1 (by decide) 0 1 rfl rfl [] (by decide)) $$ [Hcs1_1_0 HA1_0_1 HO]
  · isplitr; · iexact HP
    isplitl [Hcs1_1_0]; · iexact Hcs1_1_0
    isplitl [HA1_0_1]; · iexact HA1_0_1
    iexact HO
  iintro ⟨HzL1, HV1_0_1, HO⟩
  ihave HzL1 := (Entails.of_eq (show pay P c 1 0 1 0 = at_ c cc0_scratch2 (hw c 0 1) fullShare.left (Z P c) from rfl)) $$ HzL1
  rw [wp_ret]; imodintro
  iapply Hk
  isplitl [HzL0]; · iexact HzL0
  isplitl [HV1_0_0]; · iexact HV1_0_0
  isplitl [HzR0]; · iexact HzR0
  isplitl [Hz10]; · iexact Hz10
  isplitl [HV2_0_0]; · iexact HV2_0_0
  isplitl [HpL1]; · iexact HpL1
  isplitl [HV0_0_1]; · iexact HV0_0_1
  isplitl [HzL1]; · iexact HzL1
  isplitl [HV1_0_1]; · iexact HV1_0_1
  iexact HO

/-- Part 18 of the body. -/
theorem part18  {Q : (PUnit) → sProp 𝕄} :
    iprop(Per P K c ∗ Cr c 2 0 1 ∗ At c 2 0 1 ∗ Cr c 2 0 1 ∗ Cr c 0 0 2 ∗ At c 0 0 2 ∗ Cr c 1 0 2 ∗ At c 1 0 2 ∗ Cr c 2 0 2 ∗ At c 2 0 2 ∗ Cr c 2 0 2 ∗ Ow c [])
      ⊢ iprop(((at_ c cc0_scratch2 (hw c 0 1) fullShare.right (Z P c) ∗ at_ c cc0_scratch2 (hw c 1 1) fullShare (Z P c) ∗ semVal (cell c 2 0 1) 0 ∗ at_ c cc0_stg0_0 (cw 2) fullShare.left (P c) ∗ semVal (cell c 0 0 2) 0 ∗ at_ c cc0_scratch2 (hw c 0 2) fullShare.left (Z P c) ∗ semVal (cell c 1 0 2) 0 ∗ at_ c cc0_scratch2 (hw c 0 2) fullShare.right (Z P c) ∗ at_ c cc0_scratch2 (hw c 1 2) fullShare (Z P c) ∗ semVal (cell c 2 0 2) 0 ∗ Ow c []) -∗ Q ⟨⟩)
          -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c ) Q) := by
  rw [k0_part18_eq_skeleton]
  unfold k0_part18_skel
  simp only [semSignalWord, semWaitWord, Prog.lift, Prog.bind_op, Prog.bind_ret, Prog.pure_eq_ret]
  iintro ⟨#HP, Hcs2_1_0, HA2_0_1, Hcs2_1_1, Hcs0_2_0, HA0_0_2, Hcs1_2_0, HA1_0_2, Hcs2_2_0, HA2_0_2, Hcs2_2_1, HO⟩ Hk
  iapply (step_wait_z1 P K c 0 1 rfl rfl [] (by decide)) $$ [Hcs2_1_0 HA2_0_1 HO]
  · isplitr; · iexact HP
    isplitl [Hcs2_1_0]; · iexact Hcs2_1_0
    isplitl [HA2_0_1]; · iexact HA2_0_1
    iexact HO
  iintro ⟨HM0_1, HO⟩
  iapply (step_wait_z2 P K c 0 1 rfl rfl [] (by decide)) $$ [Hcs2_1_1 HM0_1 HO]
  · isplitr; · iexact HP
    isplitl [Hcs2_1_1]; · iexact Hcs2_1_1
    isplitl [HM0_1]; · iexact HM0_1
    iexact HO
  iintro ⟨HzR1, Hz11, HV2_0_1, HO⟩
  ihave HzR1 := (Entails.of_eq (show pay P c 2 0 1 0 = at_ c cc0_scratch2 (hw c 0 1) fullShare.right (Z P c) from rfl)) $$ HzR1
  ihave Hz11 := (Entails.of_eq (show pay P c 2 0 1 1 = at_ c cc0_scratch2 (hw c 1 1) fullShare (Z P c) from rfl)) $$ Hz11
  iapply (step_wait P K c 0 (by decide) 0 2 rfl rfl [] (by decide)) $$ [Hcs0_2_0 HA0_0_2 HO]
  · isplitr; · iexact HP
    isplitl [Hcs0_2_0]; · iexact Hcs0_2_0
    isplitl [HA0_0_2]; · iexact HA0_0_2
    iexact HO
  iintro ⟨HpL2, HV0_0_2, HO⟩
  ihave HpL2 := (Entails.of_eq (show pay P c 0 0 2 0 = at_ c cc0_stg0_0 (cw 2) fullShare.left (P c) from rfl)) $$ HpL2
  iapply (step_wait P K c 1 (by decide) 0 2 rfl rfl [] (by decide)) $$ [Hcs1_2_0 HA1_0_2 HO]
  · isplitr; · iexact HP
    isplitl [Hcs1_2_0]; · iexact Hcs1_2_0
    isplitl [HA1_0_2]; · iexact HA1_0_2
    iexact HO
  iintro ⟨HzL2, HV1_0_2, HO⟩
  ihave HzL2 := (Entails.of_eq (show pay P c 1 0 2 0 = at_ c cc0_scratch2 (hw c 0 2) fullShare.left (Z P c) from rfl)) $$ HzL2
  iapply (step_wait_z1 P K c 0 2 rfl rfl [] (by decide)) $$ [Hcs2_2_0 HA2_0_2 HO]
  · isplitr; · iexact HP
    isplitl [Hcs2_2_0]; · iexact Hcs2_2_0
    isplitl [HA2_0_2]; · iexact HA2_0_2
    iexact HO
  iintro ⟨HM0_2, HO⟩
  iapply (step_wait_z2 P K c 0 2 rfl rfl [] (by decide)) $$ [Hcs2_2_1 HM0_2 HO]
  · isplitr; · iexact HP
    isplitl [Hcs2_2_1]; · iexact Hcs2_2_1
    isplitl [HM0_2]; · iexact HM0_2
    iexact HO
  iintro ⟨HzR2, Hz12, HV2_0_2, HO⟩
  ihave HzR2 := (Entails.of_eq (show pay P c 2 0 2 0 = at_ c cc0_scratch2 (hw c 0 2) fullShare.right (Z P c) from rfl)) $$ HzR2
  ihave Hz12 := (Entails.of_eq (show pay P c 2 0 2 1 = at_ c cc0_scratch2 (hw c 1 2) fullShare (Z P c) from rfl)) $$ Hz12
  rw [wp_ret]; imodintro
  iapply Hk
  isplitl [HzR1]; · iexact HzR1
  isplitl [Hz11]; · iexact Hz11
  isplitl [HV2_0_1]; · iexact HV2_0_1
  isplitl [HpL2]; · iexact HpL2
  isplitl [HV0_0_2]; · iexact HV0_0_2
  isplitl [HzL2]; · iexact HzL2
  isplitl [HV1_0_2]; · iexact HV1_0_2
  isplitl [HzR2]; · iexact HzR2
  isplitl [Hz12]; · iexact Hz12
  isplitl [HV2_0_2]; · iexact HV2_0_2
  iexact HO

end Parts

end Cert.GradProof
-- ==== Proof.Run.lean ====
/-
# The body run whole

The barrier and the first send, then the parts in order: what a device starts from, and what it holds at the end — its
result complete, every transfer counter back at zero.
-/
module

public import proofs.«01_k».proof.Proof.Body1
public import proofs.«01_k».proof.Proof.Body2
public import proofs.«01_k».proof.Proof.Body3

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The sends, in order. -/
abbrev sends : List (Fin 3 × Fin 4) := [(0, 0), (0, 1), (1, 0), (2, 0), (0, 2), (1, 1), (2, 1), (2, 0), (0, 3), (1, 2), (2, 2), (2, 1), (1, 3), (2, 3), (2, 2), (2, 3)]

/-- What device `c` owes at the start: each neighbour's barrier one signal, and every send. -/
def O₀ (c : Dev nD) : CellTallies nD τ sig Unit :=
  owing c sends + tallyAt (barCell (nb 2 c)) () 1 + tallyAt (barCell (nb 1 c)) () 1 + tallyAt (barCell (nb 0 c)) () 1
/-- The right to signal the neighbour along axis `a`. -/
def Bt (c : Dev nD) (a : Fin 3) : sProp 𝕄 := iprop(dutyTok ER (barCell (nb a c)) 0 a ∗ reached ER (barCell (nb a c)) 0)

/-- A conjunction over a list, its first member apart. -/
theorem list_cons {I : Type} (Φ : I → sProp 𝕄) (i : I) (l : List I) : bigSepL (i :: l) Φ = iprop(Φ i ∗ bigSepL l Φ) := by rw [bigSepL_cons]; rfl
/-- A conjunction over no members. -/
theorem list_nil {I : Type} (Φ : I → sProp 𝕄) : bigSepL [] Φ = iprop(emp) := by rw [bigSepL_nil]; rfl

section Run
variable (P : Dev nD → CP (F := F)) (K : GSem nD τ sig → ℕ) (c : Dev nD)

/-- What the device needs to pass the barrier. -/
def Gate : sProp 𝕄 := iprop(allInv P K ∗ Rch c ∗ levAts L lv ∗ (∃ W, owes (c : Thread nD τ) (O₀ c) W) ∗ (Bt c 0 ∗ Bt c 1 ∗ Bt c 2)
    ∗ cred (tallyAt (barCell c) () 3) ∗ atPos ER (barCell c) 0 ∅ 0
    ∗ (four fun k => land (F := F) c 0 k) ∗ (four fun k => land (F := F) c 1 k) ∗ (four fun k => land (F := F) c 2 k))

/-- What it needs besides. -/
def Kit : sProp 𝕄 := iprop((four fun k => Tok c 0 k 0)
    ∗ (four fun k => Tok c 1 k 0)
    ∗ (four fun k => Tok c 2 k 0)
    ∗ (four fun k => Tok c 2 k 1)
    ∗ (four fun k => Cr c 0 1 k)
    ∗ (four fun k => Cr c 1 1 k)
    ∗ (four fun k => Cr c 2 1 k)
    ∗ (four fun k => Cr c 2 1 k)
    ∗ (four fun k => At c 0 0 k)
    ∗ (four fun k => At c 0 1 k)
    ∗ (four fun k => At c 1 0 k)
    ∗ (four fun k => At c 1 1 k)
    ∗ (four fun k => At c 2 0 k)
    ∗ (four fun k => At c 2 1 k)
    ∗ (four fun k => at_ c cc0_stg0_0 (cw k) fullShare.left (P c))
    ∗ (four fun k => at_ c cc0_stg0_0 (cw k) fullShare.right (P c))
    ∗ (four fun k => iprop((∃ f, at_ c cc0_scratch2 (hw c 0 k) fullShare f) ∗ ∃ f, at_ c cc0_scratch2 (hw c 1 k) fullShare f))
    ∗ (four fun k => iprop(((∃ f, at_ c cc0_stg1_0 (ow c 0 k) fullShare f) ∗ ∃ f, at_ c cc0_stg1_0 (ow c 1 k) fullShare f) ∗ ∃ f, at_ c cc0_stg1_0 (oz c k) fullShare f)))

/-- What it holds at the end. -/
def Done : sProp 𝕄 := iprop(at_ c cc0_stg0_0 Finset.univ fullShare (P c) ∗ at_ c cc0_stg1_0 Finset.univ fullShare (Out P c)
    ∗ at_ c cc0_scratch0 Finset.univ fullShare (P (nb 0 c)) ∗ at_ c cc0_scratch1 Finset.univ fullShare (S P (nb 1 c))
    ∗ at_ c cc0_scratch2 Finset.univ fullShare (Z P c) ∗ at_ c cc0_scratch3 Finset.univ fullShare (Z P (nb 2 c))
    ∗ (bigSep Finset.univ fun x : Fin 3 × Fin 2 × Fin 4 => semVal (cell c x.1 x.2.1 x.2.2) 0) ∗ semVal (barCell c) 0 ∗ Ow c [])

/-- Landing places are given out with the word that their counters are open. -/
theorem lands_open (a : Fin 3) : iprop(Rch c ∗ four fun k => land (F := F) c a k) ⊢ four fun k => iprop(land (F := F) c a k ∗ reached ER (cell c a 1 k) 0) := by
  unfold four
  iintro ⟨#HR, H0, H1, H2, H3⟩
  isplitl [H0]; · isplitl [H0]; · iexact H0
                  iapply (rch c a 1 0); iexact HR
  isplitl [H1]; · isplitl [H1]; · iexact H1
                  iapply (rch c a 1 1); iexact HR
  isplitl [H2]; · isplitl [H2]; · iexact H2
                  iapply (rch c a 1 2); iexact HR
  isplitl [H3]; · iexact H3
  iapply (rch c a 1 3); iexact HR

/-- Signals from the three neighbours say their receiving counters are open. -/
theorem all_open : iprop((four fun k => reached ER (cell (nb 0 c) 0 1 k) 0) ∗ (four fun k => reached ER (cell (nb 1 c) 1 1 k) 0) ∗ four fun k => reached ER (cell (nb 2 c) 2 1 k) 0)
    ⊢ RchN (F := F) c := by
  unfold four RchN
  rw [bigSep_univ_eq_bigSepL [((0 : Fin 3), (0 : Fin 4)), (0, 1), (0, 2), (0, 3), (1, 0), (1, 1), (1, 2), (1, 3), (2, 0), (2, 1), (2, 2), (2, 3)] (by decide) (by decide)]
  simp only [list_cons, list_nil, sep_emp_eq'']
  iintro ⟨⟨#a0, #a1, #a2, #a3⟩, ⟨#b0, #b1, #b2, #b3⟩, #c0, #c1, #c2, #c3⟩
  isplitr; · iexact a0
  isplitr; · iexact a1
  isplitr; · iexact a2
  isplitr; · iexact a3
  isplitr; · iexact b0
  isplitr; · iexact b1
  isplitr; · iexact b2
  isplitr; · iexact b3
  isplitr; · iexact c0
  isplitr; · iexact c1
  isplitr; · iexact c2
  iexact c3

/-- What one neighbour's signal brings, the places and the words apart. -/
theorem bar_apart (a : Fin 3) : barPay (F := F) c a ⊢ iprop((four fun k => land (F := F) (nb a c) a k) ∗ four fun k => reached ER (cell (nb a c) a 1 k) 0) := by
  unfold barPay four
  iintro ⟨⟨H0, #R0⟩, ⟨H1, #R1⟩, ⟨H2, #R2⟩, H3, #R3⟩
  isplitl [H0 H1 H2 H3]
  · isplitl [H0]; · iexact H0
    isplitl [H1]; · iexact H1
    isplitl [H2]; · iexact H2
    iexact H3
  isplitr; · iexact R0
  isplitr; · iexact R1
  isplitr; · iexact R2
  iexact R3

/-- The z neighbour's landing places, by this device's row blocks. -/
theorem land_z (k : Fin 4) : land (F := F) (nb 2 c) 2 k
    ⊢ iprop((∃ f, at_ (nb 2 c) cc0_scratch3 (hw c 0 k) fullShare f) ∗ ∃ f, at_ (nb 2 c) cc0_scratch3 (hw c 1 k) fullShare f) := by
  unfold land; rw [hw_nb2, hw_nb2]

/-- The second part: signal the three neighbours, wait for theirs, send the first chunk across x. -/
theorem part2 (v2 : BitVec 32) (v5 : BitVec 32) (v8 : BitVec 32) (v19 : BitVec 32) (v20 : BitVec 32) (v23 : BitVec 32) (v32 : BitVec 32) (c4_i32_19 : BitVec 32) {Q : BitVec 32 → sProp 𝕄} :
    iprop(Gate P K c ∗ at_ c cc0_stg0_0 (cw 0) fullShare.left (P c) ∗ Tok c 0 0 0)
      ⊢ iprop((∀ w, (Per P K c ∗ semVal (barCell c) 0 ∗ (land (F := F) (nb 0 c) 0 1 ∗ land (F := F) (nb 0 c) 0 2 ∗ land (F := F) (nb 0 c) 0 3)
            ∗ (four fun k => land (F := F) (nb 1 c) 1 k) ∗ (four fun k => land (F := F) (nb 2 c) 2 k) ∗ Cr c 0 0 0 ∗ Ow c [(0, 1), (1, 0), (2, 0), (0, 2), (1, 1), (2, 1), (2, 0), (0, 3), (1, 2), (2, 2), (2, 1), (1, 3), (2, 3), (2, 2), (2, 3)]) -∗ Q w)
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c v2 v5 v8 v19 v20 v23 (SemArray.scalar (sig.barrier 0 rfl) : Sems sig S_) v32 c4_i32_19) Q) := by
  rw [k0_part2_eq_skeleton]
  unfold k0_part2_skel Gate Bt
  simp only [semSignalWord, semWaitWord, Prog.lift, Prog.bind_op, Prog.bind_ret, Prog.pure_eq_ret]
  iintro ⟨⟨#HI, #HR, #Hlev, HO, ⟨⟨Ht0, #Hb0⟩, ⟨Ht1, #Hb1⟩, Ht2, #Hb2⟩, Hc, Hat, HL0, HL1, HL2⟩, HpL, HT⟩ Hk
  ihave HL0 := (lands_open c 0) $$ [HL0]
  · isplitr; · iexact HR
    iexact HL0
  iapply (step_signal P K c _ 0 (dev1 c) _ (by decide) (owing c sends + tallyAt (barCell (nb 2 c)) () 1 + tallyAt (barCell (nb 1 c)) () 1)) $$ [HO Ht0 HL0]
  · isplitr; · iexact HI
    isplitl [HO]; · iexact HO
    isplitl [Ht0]; · iexact Ht0
    isplitl [HL0]; · iexact HL0
    iexact Hb0
  iintro HO
  ihave HL1 := (lands_open c 1) $$ [HL1]
  · isplitr; · iexact HR
    iexact HL1
  iapply (step_signal P K c _ 1 (dev2 c) _ (by decide) (owing c sends + tallyAt (barCell (nb 2 c)) () 1)) $$ [HO Ht1 HL1]
  · isplitr; · iexact HI
    isplitl [HO]; · iexact HO
    isplitl [Ht1]; · iexact Ht1
    isplitl [HL1]; · iexact HL1
    iexact Hb1
  iintro HO
  ihave HL2 := (lands_open c 2) $$ [HL2]
  · isplitr; · iexact HR
    iexact HL2
  iapply (step_signal P K c _ 2 (dev3 c) _ (by decide) (owing c sends)) $$ [HO Ht2 HL2]
  · isplitr; · iexact HI
    isplitl [HO]; · iexact HO
    isplitl [Ht2]; · iexact Ht2
    isplitl [HL2]; · iexact HL2
    iexact Hb2
  iintro HO
  iapply (step_barrier P K c _ (by decide) sends (by decide)) $$ [HO Hc Hat]
  · isplitr; · iexact HI
    isplitr; · iexact Hlev
    isplitl [Hc]; · iexact Hc
    isplitl [Hat]; · iexact Hat
    unfold Ow; iexact HO
  iintro ⟨HO, Hz, HL0, HL1, HL2⟩
  icases (bar_apart c 0) $$ HL0 with ⟨HL0, R0⟩
  icases (bar_apart c 1) $$ HL1 with ⟨HL1, R1⟩
  icases (bar_apart c 2) $$ HL2 with ⟨HL2, R2⟩
  ihave HN := (all_open c) $$ [R0 R1 R2]
  · isplitl [R0]; · iexact R0
    isplitl [R1]; · iexact R1
    iexact R2
  icases HN with #HN
  ihave #HP : Per P K c $$ []
  · unfold Per
    isplitr; · iexact HI
    isplitr; · iexact HR
    isplitr; · iexact HN
    iexact Hlev
  icases (Entails.of_eq (show (four fun k => land (F := F) (nb 0 c) 0 k) = iprop(land (F := F) (nb 0 c) 0 0 ∗ land (F := F) (nb 0 c) 0 1 ∗ land (F := F) (nb 0 c) 0 2 ∗ land (F := F) (nb 0 c) 0 3) from rfl)) $$ HL0 with ⟨Hdx, Hdr⟩
  ihave Hdx := (Entails.of_eq (show land (F := F) (nb 0 c) 0 0 = iprop(∃ f, at_ (nb 0 c) cc0_scratch0 (cw 0) fullShare f) from rfl)) $$ Hdx
  iapply (send_x P K c _ 0 (dev4 c) [(0, 1), (1, 0), (2, 0), (0, 2), (1, 1), (2, 1), (2, 0), (0, 3), (1, 2), (2, 2), (2, 1), (1, 3), (2, 3), (2, 2), (2, 3)] rfl rfl rfl rfl rfl) $$ [HpL Hdx HT HO]
  · isplitr; · iexact HP
    isplitl [HpL]; · iexact HpL
    isplitl [Hdx]; · iexact Hdx
    isplitl [HT]; · iexact HT
    iexact HO
  iintro ⟨Hcs, HO⟩
  rw [wp_ret]; imodintro
  iapply Hk
  isplitr; · iexact HP
  isplitl [Hz]; · iexact Hz
  isplitl [Hdr]; · iexact Hdr
  isplitl [HL1]; · iexact HL1
  isplitl [HL2]; · iexact HL2
  isplitl [Hcs]; · iexact Hcs
  iexact HO

/-- The first part reads the device's own number; the words it computes besides take no part in what follows. -/
theorem part1 {Q : _ → sProp 𝕄} :
    iprop(∀ v2, ∀ v5, ∀ v8, ∀ v19, ∀ v20, ∀ v23, ∀ v24, ∀ v26, ∀ v27, ∀ v29, ∀ v32, Q ⟨c, v2, v5, v8, v19, v20, v23, v24, v26, v27, v29, (SemArray.scalar (sig.barrier 0 rfl) : Sems sig S_), v32, 4#32⟩)
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q := by
  rw [k0_part1_eq_skeleton]
  unfold k0_part1_skel
  simp only [Prog.lift, Prog.bind_op, Prog.bind_ret, Prog.pure_eq_ret, wp_deviceId]
  iintro Hk
  rw [wp_ret]; imodintro
  iapply Hk

/-- What is held at the end, put together: each buffer whole, every counter at zero. -/
theorem put_together : iprop(semVal (cell c 0 1 0) 0 ∗ at_ c cc0_stg0_0 (cw 0) fullShare.right (P c) ∗ at_ c cc0_scratch0 (cw 0) fullShare (P (nb 0 c)) ∗ at_ c cc0_stg1_0 (ow c 0 0) fullShare (Out P c) ∗ semVal (cell c 0 1 1) 0 ∗ at_ c cc0_stg0_0 (cw 1) fullShare.right (P c) ∗ at_ c cc0_scratch0 (cw 1) fullShare (P (nb 0 c)) ∗ at_ c cc0_stg1_0 (ow c 0 1) fullShare (Out P c) ∗ semVal (cell c 1 1 0) 0 ∗ at_ c cc0_scratch1 (cw 0) fullShare (S P (nb 1 c)) ∗ at_ c cc0_stg1_0 (ow c 1 0) fullShare (Out P c) ∗ semVal (cell c 0 1 2) 0 ∗ at_ c cc0_stg0_0 (cw 2) fullShare.right (P c) ∗ at_ c cc0_scratch0 (cw 2) fullShare (P (nb 0 c)) ∗ at_ c cc0_stg1_0 (ow c 0 2) fullShare (Out P c) ∗ semVal (cell c 1 1 1) 0 ∗ at_ c cc0_scratch1 (cw 1) fullShare (S P (nb 1 c)) ∗ at_ c cc0_stg1_0 (ow c 1 1) fullShare (Out P c) ∗ semVal (cell c 2 1 0) 0 ∗ at_ c cc0_scratch3 (zw 0) fullShare (Z P (nb 2 c)) ∗ at_ c cc0_stg1_0 (oz c 0) fullShare (Out P c) ∗ semVal (cell c 0 1 3) 0 ∗ at_ c cc0_stg0_0 (cw 3) fullShare.right (P c) ∗ at_ c cc0_scratch0 (cw 3) fullShare (P (nb 0 c)) ∗ at_ c cc0_stg1_0 (ow c 0 3) fullShare (Out P c) ∗ semVal (cell c 1 1 2) 0 ∗ at_ c cc0_scratch1 (cw 2) fullShare (S P (nb 1 c)) ∗ at_ c cc0_stg1_0 (ow c 1 2) fullShare (Out P c) ∗ semVal (cell c 2 1 1) 0 ∗ at_ c cc0_scratch3 (zw 1) fullShare (Z P (nb 2 c)) ∗ at_ c cc0_stg1_0 (oz c 1) fullShare (Out P c) ∗ semVal (cell c 1 1 3) 0 ∗ at_ c cc0_scratch1 (cw 3) fullShare (S P (nb 1 c)) ∗ at_ c cc0_stg1_0 (ow c 1 3) fullShare (Out P c) ∗ semVal (cell c 2 1 2) 0 ∗ at_ c cc0_scratch3 (zw 2) fullShare (Z P (nb 2 c)) ∗ at_ c cc0_stg1_0 (oz c 2) fullShare (Out P c) ∗ semVal (cell c 2 1 3) 0 ∗ at_ c cc0_scratch3 (zw 3) fullShare (Z P (nb 2 c)) ∗ at_ c cc0_stg1_0 (oz c 3) fullShare (Out P c) ∗ at_ c cc0_stg0_0 (cw 0) fullShare.left (P c) ∗ semVal (cell c 0 0 0) 0 ∗ at_ c cc0_scratch2 (hw c 0 0) fullShare.left (Z P c) ∗ semVal (cell c 1 0 0) 0 ∗ at_ c cc0_scratch2 (hw c 0 0) fullShare.right (Z P c) ∗ at_ c cc0_scratch2 (hw c 1 0) fullShare (Z P c) ∗ semVal (cell c 2 0 0) 0 ∗ at_ c cc0_stg0_0 (cw 1) fullShare.left (P c) ∗ semVal (cell c 0 0 1) 0 ∗ at_ c cc0_scratch2 (hw c 0 1) fullShare.left (Z P c) ∗ semVal (cell c 1 0 1) 0 ∗ at_ c cc0_scratch2 (hw c 0 1) fullShare.right (Z P c) ∗ at_ c cc0_scratch2 (hw c 1 1) fullShare (Z P c) ∗ semVal (cell c 2 0 1) 0 ∗ at_ c cc0_stg0_0 (cw 2) fullShare.left (P c) ∗ semVal (cell c 0 0 2) 0 ∗ at_ c cc0_scratch2 (hw c 0 2) fullShare.left (Z P c) ∗ semVal (cell c 1 0 2) 0 ∗ at_ c cc0_scratch2 (hw c 0 2) fullShare.right (Z P c) ∗ at_ c cc0_scratch2 (hw c 1 2) fullShare (Z P c) ∗ semVal (cell c 2 0 2) 0 ∗ at_ c cc0_stg0_0 (cw 3) fullShare.left (P c) ∗ semVal (cell c 0 0 3) 0 ∗ at_ c cc0_scratch2 (hw c 0 3) fullShare.left (Z P c) ∗ semVal (cell c 1 0 3) 0 ∗ at_ c cc0_scratch2 (hw c 0 3) fullShare.right (Z P c) ∗ at_ c cc0_scratch2 (hw c 1 3) fullShare (Z P c) ∗ semVal (cell c 2 0 3) 0 ∗ semVal (barCell c) 0 ∗ Ow c []) ⊢ Done P c := by
  unfold Done
  rw [halves c cc0_stg0_0, split_p, split_p, split_out, split_xr, split_yr, split_zs, split_zr0]
  rw [bigSep_univ_eq_bigSepL [((0 : Fin 3), (0 : Fin 2), (0 : Fin 4)), (0, 0, 1), (0, 0, 2), (0, 0, 3), (0, 1, 0), (0, 1, 1), (0, 1, 2), (0, 1, 3), (1, 0, 0), (1, 0, 1), (1, 0, 2), (1, 0, 3), (1, 1, 0), (1, 1, 1), (1, 1, 2), (1, 1, 3), (2, 0, 0), (2, 0, 1), (2, 0, 2), (2, 0, 3), (2, 1, 0), (2, 1, 1), (2, 1, 2), (2, 1, 3)] (by decide) (by decide)]
  simp only [list_cons, list_nil, sep_emp_eq'']
  unfold four
  iintro ⟨HV0_1_0, HpR0, Hxr0, Ho0_0, HV0_1_1, HpR1, Hxr1, Ho0_1, HV1_1_0, Hyr0, Ho1_0, HV0_1_2, HpR2, Hxr2, Ho0_2, HV1_1_1, Hyr1, Ho1_1, HV2_1_0, Hzrw0, Hq0, HV0_1_3, HpR3, Hxr3, Ho0_3, HV1_1_2, Hyr2, Ho1_2, HV2_1_1, Hzrw1, Hq1, HV1_1_3, Hyr3, Ho1_3, HV2_1_2, Hzrw2, Hq2, HV2_1_3, Hzrw3, Hq3, HpL0, HV0_0_0, HzL0, HV1_0_0, HzR0, Hz10, HV2_0_0, HpL1, HV0_0_1, HzL1, HV1_0_1, HzR1, Hz11, HV2_0_1, HpL2, HV0_0_2, HzL2, HV1_0_2, HzR2, Hz12, HV2_0_2, HpL3, HV0_0_3, HzL3, HV1_0_3, HzR3, Hz13, HV2_0_3, Hbar, HO⟩
  isplitl [HpL0 HpL1 HpL2 HpL3 HpR0 HpR1 HpR2 HpR3]
  · isplitl [HpL0 HpL1 HpL2 HpL3]
    · isplitl [HpL0]; · iexact HpL0
      isplitl [HpL1]; · iexact HpL1
      isplitl [HpL2]; · iexact HpL2
      iexact HpL3
    isplitl [HpR0]; · iexact HpR0
    isplitl [HpR1]; · iexact HpR1
    isplitl [HpR2]; · iexact HpR2
    iexact HpR3
  isplitl [Ho0_0 Ho1_0 Hq0 Ho0_1 Ho1_1 Hq1 Ho0_2 Ho1_2 Hq2 Ho0_3 Ho1_3 Hq3]
  · isplitl [Ho0_0 Ho1_0 Hq0]
    · isplitl [Ho0_0 Ho1_0]
      · isplitl [Ho0_0]
        · iexact Ho0_0
        iexact Ho1_0
      iexact Hq0
    isplitl [Ho0_1 Ho1_1 Hq1]
    · isplitl [Ho0_1 Ho1_1]
      · isplitl [Ho0_1]
        · iexact Ho0_1
        iexact Ho1_1
      iexact Hq1
    isplitl [Ho0_2 Ho1_2 Hq2]
    · isplitl [Ho0_2 Ho1_2]
      · isplitl [Ho0_2]
        · iexact Ho0_2
        iexact Ho1_2
      iexact Hq2
    isplitl [Ho0_3 Ho1_3]
    · isplitl [Ho0_3]
      · iexact Ho0_3
      iexact Ho1_3
    iexact Hq3
  isplitl [Hxr0 Hxr1 Hxr2 Hxr3]
  · isplitl [Hxr0]; · iexact Hxr0
    isplitl [Hxr1]; · iexact Hxr1
    isplitl [Hxr2]; · iexact Hxr2
    iexact Hxr3
  isplitl [Hyr0 Hyr1 Hyr2 Hyr3]
  · isplitl [Hyr0]; · iexact Hyr0
    isplitl [Hyr1]; · iexact Hyr1
    isplitl [Hyr2]; · iexact Hyr2
    iexact Hyr3
  isplitl [HzL0 HzR0 Hz10 HzL1 HzR1 Hz11 HzL2 HzR2 Hz12 HzL3 HzR3 Hz13]
  · isplitl [HzL0 HzR0 Hz10]
    · isplitl [HzL0 HzR0]
      · iapply (Entails.of_eq (halves c cc0_scratch2 (hw c 0 0) (Z P c)).symm); isplitl [HzL0]; · iexact HzL0
        iexact HzR0
      iexact Hz10
    isplitl [HzL1 HzR1 Hz11]
    · isplitl [HzL1 HzR1]
      · iapply (Entails.of_eq (halves c cc0_scratch2 (hw c 0 1) (Z P c)).symm); isplitl [HzL1]; · iexact HzL1
        iexact HzR1
      iexact Hz11
    isplitl [HzL2 HzR2 Hz12]
    · isplitl [HzL2 HzR2]
      · iapply (Entails.of_eq (halves c cc0_scratch2 (hw c 0 2) (Z P c)).symm); isplitl [HzL2]; · iexact HzL2
        iexact HzR2
      iexact Hz12
    isplitl [HzL3 HzR3]
    · iapply (Entails.of_eq (halves c cc0_scratch2 (hw c 0 3) (Z P c)).symm); isplitl [HzL3]; · iexact HzL3
      iexact HzR3
    iexact Hz13
  isplitl [Hzrw0 Hzrw1 Hzrw2 Hzrw3]
  · isplitl [Hzrw0]; · iexact Hzrw0
    isplitl [Hzrw1]; · iexact Hzrw1
    isplitl [Hzrw2]; · iexact Hzrw2
    iexact Hzrw3
  isplitl [HV0_0_0 HV0_0_1 HV0_0_2 HV0_0_3 HV0_1_0 HV0_1_1 HV0_1_2 HV0_1_3 HV1_0_0 HV1_0_1 HV1_0_2 HV1_0_3 HV1_1_0 HV1_1_1 HV1_1_2 HV1_1_3 HV2_0_0 HV2_0_1 HV2_0_2 HV2_0_3 HV2_1_0 HV2_1_1 HV2_1_2 HV2_1_3]
  · isplitl [HV0_0_0]; · iexact HV0_0_0
    isplitl [HV0_0_1]; · iexact HV0_0_1
    isplitl [HV0_0_2]; · iexact HV0_0_2
    isplitl [HV0_0_3]; · iexact HV0_0_3
    isplitl [HV0_1_0]; · iexact HV0_1_0
    isplitl [HV0_1_1]; · iexact HV0_1_1
    isplitl [HV0_1_2]; · iexact HV0_1_2
    isplitl [HV0_1_3]; · iexact HV0_1_3
    isplitl [HV1_0_0]; · iexact HV1_0_0
    isplitl [HV1_0_1]; · iexact HV1_0_1
    isplitl [HV1_0_2]; · iexact HV1_0_2
    isplitl [HV1_0_3]; · iexact HV1_0_3
    isplitl [HV1_1_0]; · iexact HV1_1_0
    isplitl [HV1_1_1]; · iexact HV1_1_1
    isplitl [HV1_1_2]; · iexact HV1_1_2
    isplitl [HV1_1_3]; · iexact HV1_1_3
    isplitl [HV2_0_0]; · iexact HV2_0_0
    isplitl [HV2_0_1]; · iexact HV2_0_1
    isplitl [HV2_0_2]; · iexact HV2_0_2
    isplitl [HV2_0_3]; · iexact HV2_0_3
    isplitl [HV2_1_0]; · iexact HV2_1_0
    isplitl [HV2_1_1]; · iexact HV2_1_1
    isplitl [HV2_1_2]; · iexact HV2_1_2
    iexact HV2_1_3
  isplitl [Hbar]; · iexact Hbar
  iexact HO

set_option maxHeartbeats 4000000 in
set_option maxRecDepth 4096 in
/-- The body, from the barrier to its end. -/
theorem body_run {Q : PUnit → sProp 𝕄} :
    iprop(Gate P K c ∗ Kit P c) ⊢ iprop((Done P c -∗ Q ⟨⟩) -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q) := by
  rw [cc0_body_eq_skeleton]
  unfold cc0_body_skel
  unfold Kit four
  iintro ⟨HG, ⟨Ht0_0_0, Ht0_1_0, Ht0_2_0, Ht0_3_0⟩, ⟨Ht1_0_0, Ht1_1_0, Ht1_2_0, Ht1_3_0⟩, ⟨Ht2_0_0, Ht2_1_0, Ht2_2_0, Ht2_3_0⟩, ⟨Ht2_0_1, Ht2_1_1, Ht2_2_1, Ht2_3_1⟩, ⟨Hcr0_0_0, Hcr0_1_0, Hcr0_2_0, Hcr0_3_0⟩, ⟨Hcr1_0_0, Hcr1_1_0, Hcr1_2_0, Hcr1_3_0⟩, ⟨Hcr2_0_0, Hcr2_1_0, Hcr2_2_0, Hcr2_3_0⟩, ⟨Hcr2_0_1, Hcr2_1_1, Hcr2_2_1, Hcr2_3_1⟩, ⟨HA0_0_0, HA0_0_1, HA0_0_2, HA0_0_3⟩, ⟨HA0_1_0, HA0_1_1, HA0_1_2, HA0_1_3⟩, ⟨HA1_0_0, HA1_0_1, HA1_0_2, HA1_0_3⟩, ⟨HA1_1_0, HA1_1_1, HA1_1_2, HA1_1_3⟩, ⟨HA2_0_0, HA2_0_1, HA2_0_2, HA2_0_3⟩, ⟨HA2_1_0, HA2_1_1, HA2_1_2, HA2_1_3⟩, ⟨HpL0, HpL1, HpL2, HpL3⟩, ⟨HpR0, HpR1, HpR2, HpR3⟩, ⟨⟨Hzu0_0, Hzu1_0⟩, ⟨Hzu0_1, Hzu1_1⟩, ⟨Hzu0_2, Hzu1_2⟩, ⟨Hzu0_3, Hzu1_3⟩⟩, ⟨⟨⟨Hou0_0, Hou1_0⟩, Hqu0⟩, ⟨⟨Hou0_1, Hou1_1⟩, Hqu1⟩, ⟨⟨Hou0_2, Hou1_2⟩, Hqu2⟩, ⟨⟨Hou0_3, Hou1_3⟩, Hqu3⟩⟩⟩ Hk
  rw [wp_bind]
  iapply (part1 c)
  iintro %v2 %v5 %v8 %v19 %v20 %v23 %v24 %v26 %v27 %v29 %v32
  rw [wp_bind]
  iapply (part2 P K c _ _ _ _ _ _ _ _) $$ [HG HpL0 Ht0_0_0]
  · isplitl [HG]; · iexact HG
    isplitl [HpL0]; · iexact HpL0
    iexact Ht0_0_0
  unfold four
  iintro %v61 ⟨#HP, Hbar, ⟨Hdx1, Hdx2, Hdx3⟩, ⟨Hdy0, Hdy1, Hdy2, Hdy3⟩, ⟨Hl0, Hl1, Hl2, Hl3⟩, Hcs0_0_0, HO⟩
  icases (land_z c 0) $$ Hl0 with ⟨Hdz0_0, Hdz1_0⟩
  icases (land_z c 1) $$ Hl1 with ⟨Hdz0_1, Hdz1_1⟩
  icases (land_z c 2) $$ Hl2 with ⟨Hdz0_2, Hdz1_2⟩
  icases (land_z c 3) $$ Hl3 with ⟨Hdz0_3, Hdz1_3⟩
  ihave Hdx1 := (Entails.of_eq (show land (F := F) (nb 0 c) 0 1 = iprop(∃ f, at_ (nb 0 c) cc0_scratch0 (cw 1) fullShare f) from rfl)) $$ Hdx1
  ihave Hdx2 := (Entails.of_eq (show land (F := F) (nb 0 c) 0 2 = iprop(∃ f, at_ (nb 0 c) cc0_scratch0 (cw 2) fullShare f) from rfl)) $$ Hdx2
  ihave Hdx3 := (Entails.of_eq (show land (F := F) (nb 0 c) 0 3 = iprop(∃ f, at_ (nb 0 c) cc0_scratch0 (cw 3) fullShare f) from rfl)) $$ Hdx3
  ihave Hdy0 := (Entails.of_eq (show land (F := F) (nb 1 c) 1 0 = iprop(∃ f, at_ (nb 1 c) cc0_scratch1 (cw 0) fullShare f) from rfl)) $$ Hdy0
  ihave Hdy1 := (Entails.of_eq (show land (F := F) (nb 1 c) 1 1 = iprop(∃ f, at_ (nb 1 c) cc0_scratch1 (cw 1) fullShare f) from rfl)) $$ Hdy1
  ihave Hdy2 := (Entails.of_eq (show land (F := F) (nb 1 c) 1 2 = iprop(∃ f, at_ (nb 1 c) cc0_scratch1 (cw 2) fullShare f) from rfl)) $$ Hdy2
  ihave Hdy3 := (Entails.of_eq (show land (F := F) (nb 1 c) 1 3 = iprop(∃ f, at_ (nb 1 c) cc0_scratch1 (cw 3) fullShare f) from rfl)) $$ Hdy3
  rw [wp_bind]
  iapply (part3 P K c _ _ _ _ _ _) $$ [HpL1 Hdx1 Ht0_1_0 Hcr0_0_0 HA0_1_0 HpR0 Hzu0_0 Hou0_0 HO]
  · isplitr; · iexact HP
    isplitl [HpL1]; · iexact HpL1
    isplitl [Hdx1]; · iexact Hdx1
    isplitl [Ht0_1_0]; · iexact Ht0_1_0
    isplitl [Hcr0_0_0]; · iexact Hcr0_0_0
    isplitl [HA0_1_0]; · iexact HA0_1_0
    isplitl [HpR0]; · iexact HpR0
    isplitl [Hzu0_0]; · iexact Hzu0_0
    isplitl [Hou0_0]; · iexact Hou0_0
    iexact HO
  iintro ⟨Hcs0_1_0, HV0_1_0, HpR0, Hxr0, HzL0, HzR0, Hou0_0, HO⟩
  rw [wp_bind]
  iapply (part4 P K c _ _ _ _ _ _) $$ [Hou0_0 HzL0 Hdy0 Ht1_0_0 HzR0 Hdz0_0 Ht2_0_0 HO]
  · isplitr; · iexact HP
    isplitl [Hou0_0]; · iexact Hou0_0
    isplitl [HzL0]; · iexact HzL0
    isplitl [Hdy0]; · iexact Hdy0
    isplitl [Ht1_0_0]; · iexact Ht1_0_0
    isplitl [HzR0]; · iexact HzR0
    isplitl [Hdz0_0]; · iexact Hdz0_0
    isplitl [Ht2_0_0]; · iexact Ht2_0_0
    iexact HO
  iintro ⟨Ho0_0, Hcs1_0_0, Hcs2_0_0, HO⟩
  rw [wp_bind]
  iapply (part5 P K c _ _ _ _ _ _ _) $$ [HpL2 Hdx2 Ht0_2_0 Hcr0_1_0 HA0_1_1 HpR1 Hzu0_1 Hou0_1 HO]
  · isplitr; · iexact HP
    isplitl [HpL2]; · iexact HpL2
    isplitl [Hdx2]; · iexact Hdx2
    isplitl [Ht0_2_0]; · iexact Ht0_2_0
    isplitl [Hcr0_1_0]; · iexact Hcr0_1_0
    isplitl [HA0_1_1]; · iexact HA0_1_1
    isplitl [HpR1]; · iexact HpR1
    isplitl [Hzu0_1]; · iexact Hzu0_1
    isplitl [Hou0_1]; · iexact Hou0_1
    iexact HO
  iintro %u0 %u1 ⟨Hcs0_2_0, HV0_1_1, HpR1, Hxr1, HzL1, HzR1, Ho0_1, HO⟩
  rw [wp_bind]
  iapply (part6 P K c _ _ _ _ _ _ _ _) $$ [HzL1 Hdy1 Ht1_1_0 HzR1 Hdz0_1 Ht2_1_0 Hcr1_0_0 HA1_1_0 Hzu1_0 HO]
  · isplitr; · iexact HP
    isplitl [HzL1]; · iexact HzL1
    isplitl [Hdy1]; · iexact Hdy1
    isplitl [Ht1_1_0]; · iexact Ht1_1_0
    isplitl [HzR1]; · iexact HzR1
    isplitl [Hdz0_1]; · iexact Hdz0_1
    isplitl [Ht2_1_0]; · iexact Ht2_1_0
    isplitl [Hcr1_0_0]; · iexact Hcr1_0_0
    isplitl [HA1_1_0]; · iexact HA1_1_0
    isplitl [Hzu1_0]; · iexact Hzu1_0
    iexact HO
  iintro ⟨Hcs1_1_0, Hcs2_1_0, HV1_1_0, Hyr0, Hzu1_0, HO⟩
  rw [wp_bind]
  iapply (part7 P K c _ _ _ _ _ _ _) $$ [Hzu1_0 Hou1_0 Hdz1_0 Ht2_0_1 HpL3 Hdx3 Ht0_3_0 HO]
  · isplitr; · iexact HP
    isplitl [Hzu1_0]; · iexact Hzu1_0
    isplitl [Hou1_0]; · iexact Hou1_0
    isplitl [Hdz1_0]; · iexact Hdz1_0
    isplitl [Ht2_0_1]; · iexact Ht2_0_1
    isplitl [HpL3]; · iexact HpL3
    isplitl [Hdx3]; · iexact Hdx3
    isplitl [Ht0_3_0]; · iexact Ht0_3_0
    iexact HO
  iintro %u0 %u1 ⟨Ho1_0, Hcs2_0_1, Hcs0_3_0, HO⟩
  rw [wp_bind]
  iapply (part8 P K c _ _ _ _ _ _ _) $$ [Hcr0_2_0 HA0_1_2 HpR2 Hzu0_2 Hou0_2 Hdy2 Ht1_2_0 HO]
  · isplitr; · iexact HP
    isplitl [Hcr0_2_0]; · iexact Hcr0_2_0
    isplitl [HA0_1_2]; · iexact HA0_1_2
    isplitl [HpR2]; · iexact HpR2
    isplitl [Hzu0_2]; · iexact Hzu0_2
    isplitl [Hou0_2]; · iexact Hou0_2
    isplitl [Hdy2]; · iexact Hdy2
    isplitl [Ht1_2_0]; · iexact Ht1_2_0
    iexact HO
  iintro %u0 ⟨HV0_1_2, HpR2, Hxr2, HzR2, Ho0_2, Hcs1_2_0, HO⟩
  rw [wp_bind]
  iapply (part9 P K c _ _ _ _ _ _ _ _) $$ [HzR2 Hdz0_2 Ht2_2_0 Hcr1_1_0 HA1_1_1 Hzu1_1 Hou1_1 HO]
  · isplitr; · iexact HP
    isplitl [HzR2]; · iexact HzR2
    isplitl [Hdz0_2]; · iexact Hdz0_2
    isplitl [Ht2_2_0]; · iexact Ht2_2_0
    isplitl [Hcr1_1_0]; · iexact Hcr1_1_0
    isplitl [HA1_1_1]; · iexact HA1_1_1
    isplitl [Hzu1_1]; · iexact Hzu1_1
    isplitl [Hou1_1]; · iexact Hou1_1
    iexact HO
  iintro %u0 %u1 ⟨Hcs2_2_0, HV1_1_1, Hyr1, Hz11, Ho1_1, HO⟩
  rw [wp_bind]
  iapply (part10 P K c _ _ _ _ _ _) $$ [Hz11 Hdz1_1 Ht2_1_1 Hcr2_0_0 HA2_1_0 Hcr2_0_1 HO]
  · isplitr; · iexact HP
    isplitl [Hz11]; · iexact Hz11
    isplitl [Hdz1_1]; · iexact Hdz1_1
    isplitl [Ht2_1_1]; · iexact Ht2_1_1
    isplitl [Hcr2_0_0]; · iexact Hcr2_0_0
    isplitl [HA2_1_0]; · iexact HA2_1_0
    isplitl [Hcr2_0_1]; · iexact Hcr2_0_1
    iexact HO
  iintro ⟨Hcs2_1_1, HV2_1_0, Hzrw0, HO⟩
  rw [wp_bind]
  iapply (part11 P K c _ _ _ _ _ _ _) $$ [Hqu0 Hcr0_3_0 HA0_1_3 HpR3 Hzu0_3 Hou0_3 HO]
  · isplitr; · iexact HP
    isplitl [Hqu0]; · iexact Hqu0
    isplitl [Hcr0_3_0]; · iexact Hcr0_3_0
    isplitl [HA0_1_3]; · iexact HA0_1_3
    isplitl [HpR3]; · iexact HpR3
    isplitl [Hzu0_3]; · iexact Hzu0_3
    isplitl [Hou0_3]; · iexact Hou0_3
    iexact HO
  iintro ⟨Hq0, HV0_1_3, HpR3, Hxr3, HzL3, HzR3, Ho0_3, HO⟩
  rw [wp_bind]
  iapply (part12 P K c _ _ _ _ _ _ _) $$ [HzL3 Hdy3 Ht1_3_0 HzR3 Hdz0_3 Ht2_3_0 Hcr1_2_0 HA1_1_2 Hzu1_2 HO]
  · isplitr; · iexact HP
    isplitl [HzL3]; · iexact HzL3
    isplitl [Hdy3]; · iexact Hdy3
    isplitl [Ht1_3_0]; · iexact Ht1_3_0
    isplitl [HzR3]; · iexact HzR3
    isplitl [Hdz0_3]; · iexact Hdz0_3
    isplitl [Ht2_3_0]; · iexact Ht2_3_0
    isplitl [Hcr1_2_0]; · iexact Hcr1_2_0
    isplitl [HA1_1_2]; · iexact HA1_1_2
    isplitl [Hzu1_2]; · iexact Hzu1_2
    iexact HO
  iintro %u0 ⟨Hcs1_3_0, Hcs2_3_0, HV1_1_2, Hyr2, Hz12, HO⟩
  rw [wp_bind]
  iapply (part13 P K c _ _ _ _) $$ [Hou1_2 Hz12 Hdz1_2 Ht2_2_1 Hcr2_1_0 HA2_1_1 HO]
  · isplitr; · iexact HP
    isplitl [Hou1_2]; · iexact Hou1_2
    isplitl [Hz12]; · iexact Hz12
    isplitl [Hdz1_2]; · iexact Hdz1_2
    isplitl [Ht2_2_1]; · iexact Ht2_2_1
    isplitl [Hcr2_1_0]; · iexact Hcr2_1_0
    isplitl [HA2_1_1]; · iexact HA2_1_1
    iexact HO
  iintro ⟨Ho1_2, Hcs2_2_1, HM1_1, HO⟩
  rw [wp_bind]
  iapply (part14 P K c _ _ _ _ _ _ _ _) $$ [Hcr2_1_1 HM1_1 Hqu1 Hcr1_3_0 HA1_1_3 Hzu1_3 Hou1_3 HO]
  · isplitr; · iexact HP
    isplitl [Hcr2_1_1]; · iexact Hcr2_1_1
    isplitl [HM1_1]; · iexact HM1_1
    isplitl [Hqu1]; · iexact Hqu1
    isplitl [Hcr1_3_0]; · iexact Hcr1_3_0
    isplitl [HA1_1_3]; · iexact HA1_1_3
    isplitl [Hzu1_3]; · iexact Hzu1_3
    isplitl [Hou1_3]; · iexact Hou1_3
    iexact HO
  iintro ⟨HV2_1_1, Hzrw1, Hq1, HV1_1_3, Hyr3, Hz13, Ho1_3, HO⟩
  rw [wp_bind]
  iapply (part15 P K c _ _ _ _) $$ [Hz13 Hdz1_3 Ht2_3_1 Hcr2_2_0 HA2_1_2 Hcr2_2_1 Hqu2 HO]
  · isplitr; · iexact HP
    isplitl [Hz13]; · iexact Hz13
    isplitl [Hdz1_3]; · iexact Hdz1_3
    isplitl [Ht2_3_1]; · iexact Ht2_3_1
    isplitl [Hcr2_2_0]; · iexact Hcr2_2_0
    isplitl [HA2_1_2]; · iexact HA2_1_2
    isplitl [Hcr2_2_1]; · iexact Hcr2_2_1
    isplitl [Hqu2]; · iexact Hqu2
    iexact HO
  iintro %u0 ⟨Hcs2_3_1, HV2_1_2, Hzrw2, Hq2, HO⟩
  rw [wp_bind]
  iapply (part16 P K c _ _ _ _ _) $$ [Hcr2_3_0 HA2_1_3 Hcr2_3_1 Hqu3 Hcs0_0_0 HA0_0_0 HO]
  · isplitr; · iexact HP
    isplitl [Hcr2_3_0]; · iexact Hcr2_3_0
    isplitl [HA2_1_3]; · iexact HA2_1_3
    isplitl [Hcr2_3_1]; · iexact Hcr2_3_1
    isplitl [Hqu3]; · iexact Hqu3
    isplitl [Hcs0_0_0]; · iexact Hcs0_0_0
    isplitl [HA0_0_0]; · iexact HA0_0_0
    iexact HO
  iintro ⟨HV2_1_3, Hzrw3, Hq3, HpL0, HV0_0_0, HO⟩
  rw [wp_bind]
  iapply (part17 P K c ) $$ [Hcs1_0_0 HA1_0_0 Hcs2_0_0 HA2_0_0 Hcs2_0_1 Hcs0_1_0 HA0_0_1 Hcs1_1_0 HA1_0_1 HO]
  · isplitr; · iexact HP
    isplitl [Hcs1_0_0]; · iexact Hcs1_0_0
    isplitl [HA1_0_0]; · iexact HA1_0_0
    isplitl [Hcs2_0_0]; · iexact Hcs2_0_0
    isplitl [HA2_0_0]; · iexact HA2_0_0
    isplitl [Hcs2_0_1]; · iexact Hcs2_0_1
    isplitl [Hcs0_1_0]; · iexact Hcs0_1_0
    isplitl [HA0_0_1]; · iexact HA0_0_1
    isplitl [Hcs1_1_0]; · iexact Hcs1_1_0
    isplitl [HA1_0_1]; · iexact HA1_0_1
    iexact HO
  iintro ⟨HzL0, HV1_0_0, HzR0, Hz10, HV2_0_0, HpL1, HV0_0_1, HzL1, HV1_0_1, HO⟩
  rw [wp_bind]
  iapply (part18 P K c ) $$ [Hcs2_1_0 HA2_0_1 Hcs2_1_1 Hcs0_2_0 HA0_0_2 Hcs1_2_0 HA1_0_2 Hcs2_2_0 HA2_0_2 Hcs2_2_1 HO]
  · isplitr; · iexact HP
    isplitl [Hcs2_1_0]; · iexact Hcs2_1_0
    isplitl [HA2_0_1]; · iexact HA2_0_1
    isplitl [Hcs2_1_1]; · iexact Hcs2_1_1
    isplitl [Hcs0_2_0]; · iexact Hcs0_2_0
    isplitl [HA0_0_2]; · iexact HA0_0_2
    isplitl [Hcs1_2_0]; · iexact Hcs1_2_0
    isplitl [HA1_0_2]; · iexact HA1_0_2
    isplitl [Hcs2_2_0]; · iexact Hcs2_2_0
    isplitl [HA2_0_2]; · iexact HA2_0_2
    isplitl [Hcs2_2_1]; · iexact Hcs2_2_1
    iexact HO
  iintro ⟨HzR1, Hz11, HV2_0_1, HpL2, HV0_0_2, HzL2, HV1_0_2, HzR2, Hz12, HV2_0_2, HO⟩
  simp only [Prog.lift, Prog.bind_op, Prog.bind_ret, Prog.pure_eq_ret]
  iapply (step_wait P K c 0 (by decide) 0 3 rfl rfl [] (by decide)) $$ [Hcs0_3_0 HA0_0_3 HO]
  · isplitr; · iexact HP
    isplitl [Hcs0_3_0]; · iexact Hcs0_3_0
    isplitl [HA0_0_3]; · iexact HA0_0_3
    iexact HO
  iintro ⟨HpL3, HV0_0_3, HO⟩
  ihave HpL3 := (Entails.of_eq (show pay P c 0 0 3 0 = at_ c cc0_stg0_0 (cw 3) fullShare.left (P c) from rfl)) $$ HpL3
  iapply (step_wait P K c 1 (by decide) 0 3 rfl rfl [] (by decide)) $$ [Hcs1_3_0 HA1_0_3 HO]
  · isplitr; · iexact HP
    isplitl [Hcs1_3_0]; · iexact Hcs1_3_0
    isplitl [HA1_0_3]; · iexact HA1_0_3
    iexact HO
  iintro ⟨HzL3, HV1_0_3, HO⟩
  ihave HzL3 := (Entails.of_eq (show pay P c 1 0 3 0 = at_ c cc0_scratch2 (hw c 0 3) fullShare.left (Z P c) from rfl)) $$ HzL3
  iapply (step_wait_z1 P K c 0 3 rfl rfl [] (by decide)) $$ [Hcs2_3_0 HA2_0_3 HO]
  · isplitr; · iexact HP
    isplitl [Hcs2_3_0]; · iexact Hcs2_3_0
    isplitl [HA2_0_3]; · iexact HA2_0_3
    iexact HO
  iintro ⟨HM0_3, HO⟩
  iapply (step_wait_z2 P K c 0 3 rfl rfl [] (by decide)) $$ [Hcs2_3_1 HM0_3 HO]
  · isplitr; · iexact HP
    isplitl [Hcs2_3_1]; · iexact Hcs2_3_1
    isplitl [HM0_3]; · iexact HM0_3
    iexact HO
  iintro ⟨HzR3, Hz13, HV2_0_3, HO⟩
  ihave HzR3 := (Entails.of_eq (show pay P c 2 0 3 0 = at_ c cc0_scratch2 (hw c 0 3) fullShare.right (Z P c) from rfl)) $$ HzR3
  ihave Hz13 := (Entails.of_eq (show pay P c 2 0 3 1 = at_ c cc0_scratch2 (hw c 1 3) fullShare (Z P c) from rfl)) $$ Hz13
  first | (rw [wp_ret]; imodintro) | skip
  iapply Hk
  iapply (put_together P c)
  isplitl [HV0_1_0]; · iexact HV0_1_0
  isplitl [HpR0]; · iexact HpR0
  isplitl [Hxr0]; · iexact Hxr0
  isplitl [Ho0_0]; · iexact Ho0_0
  isplitl [HV0_1_1]; · iexact HV0_1_1
  isplitl [HpR1]; · iexact HpR1
  isplitl [Hxr1]; · iexact Hxr1
  isplitl [Ho0_1]; · iexact Ho0_1
  isplitl [HV1_1_0]; · iexact HV1_1_0
  isplitl [Hyr0]; · iexact Hyr0
  isplitl [Ho1_0]; · iexact Ho1_0
  isplitl [HV0_1_2]; · iexact HV0_1_2
  isplitl [HpR2]; · iexact HpR2
  isplitl [Hxr2]; · iexact Hxr2
  isplitl [Ho0_2]; · iexact Ho0_2
  isplitl [HV1_1_1]; · iexact HV1_1_1
  isplitl [Hyr1]; · iexact Hyr1
  isplitl [Ho1_1]; · iexact Ho1_1
  isplitl [HV2_1_0]; · iexact HV2_1_0
  isplitl [Hzrw0]; · iexact Hzrw0
  isplitl [Hq0]; · iexact Hq0
  isplitl [HV0_1_3]; · iexact HV0_1_3
  isplitl [HpR3]; · iexact HpR3
  isplitl [Hxr3]; · iexact Hxr3
  isplitl [Ho0_3]; · iexact Ho0_3
  isplitl [HV1_1_2]; · iexact HV1_1_2
  isplitl [Hyr2]; · iexact Hyr2
  isplitl [Ho1_2]; · iexact Ho1_2
  isplitl [HV2_1_1]; · iexact HV2_1_1
  isplitl [Hzrw1]; · iexact Hzrw1
  isplitl [Hq1]; · iexact Hq1
  isplitl [HV1_1_3]; · iexact HV1_1_3
  isplitl [Hyr3]; · iexact Hyr3
  isplitl [Ho1_3]; · iexact Ho1_3
  isplitl [HV2_1_2]; · iexact HV2_1_2
  isplitl [Hzrw2]; · iexact Hzrw2
  isplitl [Hq2]; · iexact Hq2
  isplitl [HV2_1_3]; · iexact HV2_1_3
  isplitl [Hzrw3]; · iexact Hzrw3
  isplitl [Hq3]; · iexact Hq3
  isplitl [HpL0]; · iexact HpL0
  isplitl [HV0_0_0]; · iexact HV0_0_0
  isplitl [HzL0]; · iexact HzL0
  isplitl [HV1_0_0]; · iexact HV1_0_0
  isplitl [HzR0]; · iexact HzR0
  isplitl [Hz10]; · iexact Hz10
  isplitl [HV2_0_0]; · iexact HV2_0_0
  isplitl [HpL1]; · iexact HpL1
  isplitl [HV0_0_1]; · iexact HV0_0_1
  isplitl [HzL1]; · iexact HzL1
  isplitl [HV1_0_1]; · iexact HV1_0_1
  isplitl [HzR1]; · iexact HzR1
  isplitl [Hz11]; · iexact Hz11
  isplitl [HV2_0_1]; · iexact HV2_0_1
  isplitl [HpL2]; · iexact HpL2
  isplitl [HV0_0_2]; · iexact HV0_0_2
  isplitl [HzL2]; · iexact HzL2
  isplitl [HV1_0_2]; · iexact HV1_0_2
  isplitl [HzR2]; · iexact HzR2
  isplitl [Hz12]; · iexact Hz12
  isplitl [HV2_0_2]; · iexact HV2_0_2
  isplitl [HpL3]; · iexact HpL3
  isplitl [HV0_0_3]; · iexact HV0_0_3
  isplitl [HzL3]; · iexact HzL3
  isplitl [HV1_0_3]; · iexact HV1_0_3
  isplitl [HzR3]; · iexact HzR3
  isplitl [Hz13]; · iexact Hz13
  isplitl [HV2_0_3]; · iexact HV2_0_3
  isplitl [Hbar]; · iexact Hbar
  iexact HO

end Run

end Cert.GradProof
-- ==== Proof.Start.lean ====
/-
# From whole buffers to windows

What a device holds when its body starts, cut into the windows that the body moves one by one.
-/
module

public import proofs.«01_k».proof.Proof.Run

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A statement of every transfer counter, chunk by chunk. -/
theorem by_chunks (Φ : Fin 3 → Fin 2 → Fin 4 → sProp 𝕄) : (bigSep Finset.univ fun x : Fin 3 × Fin 2 × Fin 4 => Φ x.1 x.2.1 x.2.2)
    ⊢ iprop((four fun k => Φ 0 0 k) ∗ (four fun k => Φ 0 1 k) ∗ (four fun k => Φ 1 0 k) ∗ (four fun k => Φ 1 1 k) ∗ (four fun k => Φ 2 0 k) ∗ (four fun k => Φ 2 1 k)) := by
  rw [bigSep_univ_eq_bigSepL [((0 : Fin 3), (0 : Fin 2), (0 : Fin 4)), (0, 0, 1), (0, 0, 2), (0, 0, 3), (0, 1, 0), (0, 1, 1), (0, 1, 2), (0, 1, 3), (1, 0, 0), (1, 0, 1), (1, 0, 2), (1, 0, 3), (1, 1, 0), (1, 1, 1), (1, 1, 2), (1, 1, 3), (2, 0, 0), (2, 0, 1), (2, 0, 2), (2, 0, 3), (2, 1, 0), (2, 1, 1), (2, 1, 2), (2, 1, 3)] (by decide) (by decide)]
  simp only [list_cons, list_nil, sep_emp_eq'']
  unfold four
  iintro ⟨H000, H001, H002, H003, H010, H011, H012, H013, H100, H101, H102, H103, H110, H111, H112, H113, H200, H201, H202, H203, H210, H211, H212, H213⟩
  isplitl [H000 H001 H002 H003]
  · isplitl [H000]; · iexact H000
    isplitl [H001]; · iexact H001
    isplitl [H002]; · iexact H002
    iexact H003
  isplitl [H010 H011 H012 H013]
  · isplitl [H010]; · iexact H010
    isplitl [H011]; · iexact H011
    isplitl [H012]; · iexact H012
    iexact H013
  isplitl [H100 H101 H102 H103]
  · isplitl [H100]; · iexact H100
    isplitl [H101]; · iexact H101
    isplitl [H102]; · iexact H102
    iexact H103
  isplitl [H110 H111 H112 H113]
  · isplitl [H110]; · iexact H110
    isplitl [H111]; · iexact H111
    isplitl [H112]; · iexact H112
    iexact H113
  isplitl [H200 H201 H202 H203]
  · isplitl [H200]; · iexact H200
    isplitl [H201]; · iexact H201
    isplitl [H202]; · iexact H202
    iexact H203
  isplitl [H210]; · iexact H210
  isplitl [H211]; · iexact H211
  isplitl [H212]; · iexact H212
  iexact H213

/-- Four statements, each weakened. -/
theorem four_mono {f g : Fin 4 → sProp 𝕄} (h : ∀ k, f k ⊢ g k) : four f ⊢ four g := by
  unfold four
  exact BIClass.sep_mono (h 0) (BIClass.sep_mono (h 1) (BIClass.sep_mono (h 2) (h 3)))

/-- A buffer held at some contents is held, window by window, at some contents. -/
theorem some_x (c : Dev nD) : iprop(∃ f, at_ (F := F) c cc0_scratch0 Finset.univ fullShare f) ⊢ four fun k => land (F := F) c 0 k := by
  iintro ⟨%f, H⟩
  have h : four (fun k => at_ (F := F) c cc0_scratch0 (cw k) fullShare f) ⊢ four fun k => land (F := F) c 0 k :=
    four_mono fun k => by unfold land; iintro H; iexists f; iexact H
  iapply h; iapply (Entails.of_eq (split_xr c fullShare f)); iexact H
theorem some_y (c : Dev nD) : iprop(∃ f, at_ (F := F) c cc0_scratch1 Finset.univ fullShare f) ⊢ four fun k => land (F := F) c 1 k := by
  iintro ⟨%f, H⟩
  have h : four (fun k => at_ (F := F) c cc0_scratch1 (cw k) fullShare f) ⊢ four fun k => land (F := F) c 1 k :=
    four_mono fun k => by unfold land; iintro H; iexists f; iexact H
  iapply h; iapply (Entails.of_eq (split_yr c fullShare f)); iexact H
theorem some_zr (c : Dev nD) : iprop(∃ f, at_ (F := F) c cc0_scratch3 Finset.univ fullShare f) ⊢ four fun k => land (F := F) c 2 k := by
  iintro ⟨%f, H⟩
  have h : four (fun k => iprop(at_ (F := F) c cc0_scratch3 (hw c 0 k) fullShare f ∗ at_ (F := F) c cc0_scratch3 (hw c 1 k) fullShare f))
      ⊢ four fun k => land (F := F) c 2 k :=
    four_mono fun k => by
      unfold land; iintro ⟨H0, H1⟩
      isplitl [H0]; · iexists f; iexact H0
      iexists f; iexact H1
  iapply h; iapply (Entails.of_eq (split_zr c fullShare f)); iexact H
theorem some_zs (c : Dev nD) : iprop(∃ f, at_ (F := F) c cc0_scratch2 Finset.univ fullShare f)
    ⊢ four fun k => iprop((∃ f, at_ (F := F) c cc0_scratch2 (hw c 0 k) fullShare f) ∗ ∃ f, at_ (F := F) c cc0_scratch2 (hw c 1 k) fullShare f) := by
  iintro ⟨%f, H⟩
  have h : four (fun k => iprop(at_ (F := F) c cc0_scratch2 (hw c 0 k) fullShare f ∗ at_ (F := F) c cc0_scratch2 (hw c 1 k) fullShare f))
      ⊢ four fun k => iprop((∃ f, at_ (F := F) c cc0_scratch2 (hw c 0 k) fullShare f) ∗ ∃ f, at_ (F := F) c cc0_scratch2 (hw c 1 k) fullShare f) :=
    four_mono fun k => by
      iintro ⟨H0, H1⟩
      isplitl [H0]; · iexists f; iexact H0
      iexists f; iexact H1
  iapply h; iapply (Entails.of_eq (split_zs c fullShare f)); iexact H
theorem some_out (c : Dev nD) : iprop(∃ f, at_ (F := F) c cc0_stg1_0 Finset.univ fullShare f)
    ⊢ four fun k => iprop(((∃ f, at_ (F := F) c cc0_stg1_0 (ow c 0 k) fullShare f) ∗ ∃ f, at_ (F := F) c cc0_stg1_0 (ow c 1 k) fullShare f)
        ∗ ∃ f, at_ (F := F) c cc0_stg1_0 (oz c k) fullShare f) := by
  iintro ⟨%f, H⟩
  have h : four (fun k => iprop((at_ (F := F) c cc0_stg1_0 (ow c 0 k) fullShare f ∗ at_ (F := F) c cc0_stg1_0 (ow c 1 k) fullShare f)
        ∗ at_ (F := F) c cc0_stg1_0 (oz c k) fullShare f))
      ⊢ four fun k => iprop(((∃ f, at_ (F := F) c cc0_stg1_0 (ow c 0 k) fullShare f) ∗ ∃ f, at_ (F := F) c cc0_stg1_0 (ow c 1 k) fullShare f)
        ∗ ∃ f, at_ (F := F) c cc0_stg1_0 (oz c k) fullShare f) :=
    four_mono fun k => by
      iintro ⟨⟨H0, H1⟩, H2⟩
      isplitl [H0 H1]
      · isplitl [H0]; · iexists f; iexact H0
        iexists f; iexact H1
      iexists f; iexact H2
  iapply h; iapply (Entails.of_eq (split_out c fullShare f)); iexact H

section Start
variable (P : Dev nD → CP (F := F)) (c : Dev nD)

/-- The rights to pay the duties of the device's sends. -/
def Toks : sProp 𝕄 := iprop((four fun k => Tok c 0 k 0) ∗ (four fun k => Tok c 1 k 0) ∗ (four fun k => Tok c 2 k 0) ∗ four fun k => Tok c 2 k 1)
/-- The rights to wait, for what others send. -/
def Creds : sProp 𝕄 := iprop(cred (tallyAt (barCell c) () 3) ∗ (four fun k => Cr c 0 1 k) ∗ (four fun k => Cr c 1 1 k) ∗ (four fun k => Cr c 2 1 k) ∗ four fun k => Cr c 2 1 k)
/-- The rights to signal, and the place before the barrier. -/
def Rights : sProp 𝕄 := iprop((Bt c 0 ∗ Bt c 1 ∗ Bt c 2) ∗ atPos ER (barCell c) 0 ∅ 0)
/-- What the launch leaves a device for its body. -/
def Tk : sProp 𝕄 := iprop((∃ K, allInv P K ∗ bigSep Finset.univ fun x : Fin 3 × Fin 2 × Fin 4 => openTok ER (cell c x.1 x.2.1 x.2.2)) ∗ Rights c ∗ Toks c ∗ Creds c)
/-- The same with the transfer counters open. -/
def Xk : sProp 𝕄 := iprop((∃ K, allInv P K ∗ Rch c ∗ bigSep Finset.univ fun x : Fin 3 × Fin 2 × Fin 4 => At c x.1 x.2.1 x.2.2) ∗ Rights c ∗ Toks c ∗ Creds c ∗ levAts L lv)
/-- A whole buffer at some contents. -/
abbrev some_ (b : Ref sig .tc) : sProp 𝕄 := iprop(∃ f, at_ (F := F) c b Finset.univ fullShare f)

/-- What the body starts from, of what the device holds when it is entered. -/
theorem ready : iprop(Xk P c ∗ (some_ (F := F) c cc0_scratch0 ∗ some_ (F := F) c cc0_scratch1 ∗ some_ (F := F) c cc0_scratch2 ∗ some_ (F := F) c cc0_scratch3)
    ∗ (∃ W, owes (c : Thread nD τ) (O₀ c) W) ∗ at_ c cc0_stg0_0 Finset.univ fullShare (P c) ∗ some_ (F := F) c cc0_stg1_0)
      ⊢ ∃ K, iprop(Gate P K c ∗ Kit P c) := by
  unfold Xk Rights Toks Creds
  iintro ⟨⟨⟨%K, #HI, #HR, HA⟩, ⟨HB, Hat⟩, ⟨HT0, HT1, HT2, HT3⟩, ⟨Hcb, HC0, HC1, HC2, HC3⟩, #Hlev⟩, ⟨Hx, Hy, Hzs, Hzr⟩, HO, Hp, Ho⟩
  ihave HA := (by_chunks (F := F) fun a b k => At c a b k) $$ HA
  icases HA with ⟨HA00, HA01, HA10, HA11, HA20, HA21⟩
  ihave Hx := (some_x c) $$ Hx
  ihave Hy := (some_y c) $$ Hy
  ihave Hzr := (some_zr c) $$ Hzr
  ihave Hzs := (some_zs c) $$ Hzs
  ihave Ho := (some_out c) $$ Ho
  ihave Hp := (Entails.of_eq (halves c cc0_stg0_0 Finset.univ (P c))) $$ Hp
  icases Hp with ⟨HpL, HpR⟩
  ihave HpL := (Entails.of_eq (split_p c fullShare.left (P c))) $$ HpL
  ihave HpR := (Entails.of_eq (split_p c fullShare.right (P c))) $$ HpR
  iexists K
  unfold Gate Kit
  isplitl [HO HB Hcb Hat Hx Hy Hzr]
  · isplitr; · iexact HI
    isplitr; · iexact HR
    isplitr; · iexact Hlev
    isplitl [HO]; · iexact HO
    isplitl [HB]; · iexact HB
    isplitl [Hcb]; · iexact Hcb
    isplitl [Hat]; · iexact Hat
    isplitl [Hx]; · iexact Hx
    isplitl [Hy]; · iexact Hy
    iexact Hzr
  isplitl [HT0]; · iexact HT0
  isplitl [HT1]; · iexact HT1
  isplitl [HT2]; · iexact HT2
  isplitl [HT3]; · iexact HT3
  isplitl [HC0]; · iexact HC0
  isplitl [HC1]; · iexact HC1
  isplitl [HC2]; · iexact HC2
  isplitl [HC3]; · iexact HC3
  isplitl [HA00]; · iexact HA00
  isplitl [HA01]; · iexact HA01
  isplitl [HA10]; · iexact HA10
  isplitl [HA11]; · iexact HA11
  isplitl [HA20]; · iexact HA20
  isplitl [HA21]; · iexact HA21
  isplitl [HpL]; · iexact HpL
  isplitl [HpR]; · iexact HpR
  isplitl [Hzs]; · iexact Hzs
  iexact Ho

end Start

end Cert.GradProof
-- ==== Proof.Region.lean ====
/-
# The kernel as a pipeline region

The kernel has one point: the operand staged before it, the result written back after it. Here are what its body is entered
with and what it leaves, and the record of the region that the program's run is put together from.
-/
module

public import proofs.«01_k».proof.Proof.Start
public import proofs.«01_k».proof.Proof.Gen.KernelIdeal.Points
public import proofs.«01_k».proof.Proof.Gen.KernelIdeal.Regions
public import Idealize.ShloMosaic.Lib.Pipeline.RegionTalk

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The block that device `c` contributes: the kernel's operand as staged. -/
def blkP (c : Dev nD) : CP (F := F) := (win0_0.blk (0 : Fin 1)).view.read (Elt F) (V3 m c main_v21)

/-- Everything the body's one point is entered with, besides its staged windows. -/
def Φ₀ (c : Dev nD) : sProp 𝕄 := iprop(Xk (blkP m) c
  ∗ (some_ (F := F) c cc0_scratch0 ∗ some_ (F := F) c cc0_scratch1 ∗ some_ (F := F) c cc0_scratch2 ∗ some_ (F := F) c cc0_scratch3) ∗ ∃ r, prngReg c r)
/-- Everything it leaves: the scratch buffers at some contents, every counter at zero. -/
def Φ₁ (c : Dev nD) : sProp 𝕄 := iprop((some_ (F := F) c cc0_scratch0 ∗ some_ (F := F) c cc0_scratch1 ∗ some_ (F := F) c cc0_scratch2 ∗ some_ (F := F) c cc0_scratch3)
  ∗ (∃ r, prngReg c r) ∗ (bigSep Finset.univ fun x : Fin 3 × Fin 2 × Fin 4 => semVal (cell c x.1 x.2.1 x.2.2) 0) ∗ semVal (barCell c) 0)

def pdats (_ : Fin 1) (c : Dev nD) : Dat τ (Elt F) Unit ℕ UU ℕ cfg0 c where
  A w := match w with
    | ⟨0, _⟩ => V3 m c main_v21
    | ⟨1, _⟩ => V3 m c main_v22
  after w _ := match w with
    | ⟨0, _⟩ => blkP m c
    | ⟨1, _⟩ => Out (blkP m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- A whole buffer owned at `X`: its contents are `X`. -/
theorem owns_at (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ at_ c b Finset.univ fullShare f) := by
  unfold owns; simp only [Memref.view_whole, View.read_whole, View.set_whole]

/-- A staged window, its contents named. -/
abbrev stg (c : Dev nD) (b : Ref sig .tc) (X : b.ty.Contents (Elt F)) : sProp 𝕄 :=
  iprop(∃ f : Buf (Elt F) ((c : Thread nD τ).loc b), ⌜f = X⌝ ∗ at_ c b Finset.univ fullShare f)

/-- What the body is entered with. -/
def bodyPre (c : Dev nD) : sProp 𝕄 := iprop(Φ₀ m c ∗ (pdats m 0 c).owesAt () t0_0.castSucc
    ∗ (∃ d, stg c cc0_stg0_0 ((pdats m 0 c).before (0 : Fin 2) t0_0 d)) ∗ (∃ d, stg c cc0_stg1_0 ((pdats m 0 c).before (1 : Fin 2) t0_0 d)))
/-- What it leaves. -/
def bodyPost (c : Dev nD) : sProp 𝕄 := iprop(Φ₁ (F := F) c ∗ (pdats m 0 c).owesAt () t0_0.succ
    ∗ stg c cc0_stg0_0 (blkP m c) ∗ stg c cc0_stg1_0 (Out (blkP m) c))

/-- The body's one point does what it should. -/
theorem body_point (c : Dev nD) : bodyPre m c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) fun _ => bodyPost m c := by
  unfold bodyPre bodyPost Φ₀
  iintro ⟨⟨HX, HS, Hp⟩, Ho, ⟨%d0, %g0, %hg0, Hin⟩, ⟨%d1, %g1, %hg1, Hout⟩⟩
  have hx : g0 = blkP m c := by rw [hg0]; unfold Dat.before; rw [if_pos (fetch0_0 t0_0)]; rfl
  subst hx
  unfold Dat.owesAt Pipeline.owesWithin
  icases Ho with ⟨%W, %hW, HO⟩
  ihave HO := (Entails.of_eq (show owes (c : Thread nD τ) ((pdats m 0 c).owed t0_0.castSucc) W = owes (c : Thread nD τ) (O₀ c) W from rfl)) $$ HO
  icases (ready (blkP m) c) $$ [HX HS HO Hin Hout] with ⟨%K, HG, HK⟩
  · isplitl [HX]; · iexact HX
    isplitl [HS]; · iexact HS
    isplitl [HO]; · iexists W; iexact HO
    isplitl [Hin]; · iexact Hin
    iexists g1; iexact Hout
  iapply (body_run (blkP m) K c) $$ [HG HK]
  · isplitl [HG]; · iexact HG
    iexact HK
  unfold Done Ow Φ₁
  iintro ⟨Hin, Hout, Hx, Hy, Hzs, Hzr, Hcs, Hb, ⟨%W', HO⟩⟩
  isplitl [Hp Hx Hy Hzs Hzr Hcs Hb]
  · isplitl [Hx Hy Hzs Hzr]
    · isplitl [Hx]; · iexists (blkP m (nb 0 c)); iexact Hx
      isplitl [Hy]; · iexists (S (blkP m) (nb 1 c)); iexact Hy
      isplitl [Hzs]; · iexists (Z (blkP m) c); iexact Hzs
      iexists (Z (blkP m) (nb 2 c)); iexact Hzr
    isplitl [Hp]; · iexact Hp
    isplitl [Hcs]; · iexact Hcs
    iexact Hb
  isplitl [HO]
  · iexists W'
    isplitr; · ipureintro; exact fun _ _ => Or.inl trivial
    iapply (Entails.of_eq (show owes (c : Thread nD τ) (owing c []) W' = owes (c : Thread nD τ) ((pdats m 0 c).owed t0_0.succ) W' from rfl)); iexact HO
  isplitl [Hin]
  · iexists (blkP m c)
    isplitr; · ipureintro; rfl
    iexact Hin
  iexists (Out (blkP m) c)
  isplitr; · ipureintro; rfl
  iexact Hout

set_option maxRecDepth 20000 in
/-- Every point of the kernel does what it should: there is one. -/
theorem body_obligation (c : Dev nD) : BodyObligation (pdats (F := F) m 0 c) (defs₀ (F := F)) 𝒱₀ () Set.univ := fun t => by
  rw [fin_N0 t]
  rw [bigSep_W0, bigSep_W0]
  simp only [owns_at]
  show bodyPre m c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) fun _ => bodyPost m c
  exact body_point m c

end Cert.GradProof
-- ==== Proof.Record.lean ====
/-
# The region's record

How the kernel is entered from the program's state before it, its transfer counters opened, and how it leaves the state after
it.
-/
module

public import proofs.«01_k».proof.Proof.Region

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own counters -/

/-- The kernel's own counters: the transfer counters. -/
def osem (x : Fin 3 × Fin 2 × Fin 4) : SemLoc sig := .dma (dsem x.1 x.2.1 x.2.2)
theorem own_facts : Pipeline.OwnSemFacts spec0 osem := by decide
/-- All of them at zero. -/
theorem own_zero (c : Dev nD) : (Pipeline.ownSems0 osem c : sProp 𝕄) = bigSep Finset.univ fun x : Fin 3 × Fin 2 × Fin 4 => semVal (cell c x.1 x.2.1 x.2.2) 0 := rfl

/-- Two statements of every member, together or apart. -/
theorem pair_up {I : Type} [DecidableEq I] (s : Finset I) (f g : I → sProp 𝕄) : iprop(bigSep s f ∗ bigSep s g) ⊢ bigSep s fun i => iprop(f i ∗ g i) := Entails.of_eq (bigSep_sep' s f g).symm
theorem take_apart {I : Type} [DecidableEq I] (s : Finset I) (f g : I → sProp 𝕄) : (bigSep s fun i => iprop(f i ∗ g i)) ⊢ iprop(bigSep s f ∗ bigSep s g) := Entails.of_eq (bigSep_sep' s f g)

/-- A device's transfer counters are opened at the kernel's start, all at once. -/
theorem open_all (P : Dev nD → CP (F := F)) (K : GSem nD τ sig → ℕ) (c : Dev nD) :
    iprop(allInv P K ∗ (bigSep Finset.univ fun x : Fin 3 × Fin 2 × Fin 4 => openTok ER (cell c x.1 x.2.1 x.2.2))
        ∗ bigSep Finset.univ fun x : Fin 3 × Fin 2 × Fin 4 => semVal (cell c x.1 x.2.1 x.2.2) 0)
      ⊢ (|={Set.univ}=> iprop(Rch c ∗ bigSep Finset.univ fun x : Fin 3 × Fin 2 × Fin 4 => At c x.1 x.2.1 x.2.2) : sProp 𝕄) := by
  have h1 (x : Fin 3 × Fin 2 × Fin 4) : iprop(allInv P K ∗ openTok ER (cell c x.1 x.2.1 x.2.2) ∗ semVal (cell c x.1 x.2.1 x.2.2) 0)
      ⊢ (|={Set.univ}=> iprop(At c x.1 x.2.1 x.2.2 ∗ reached ER (cell c x.1 x.2.1 x.2.2) 0) : sProp 𝕄) := by
    iintro ⟨#HI, Ho, Hv⟩
    unfold At
    iapply (Rounds.cell_open ER (Rd P) (g := cell c x.1 x.2.1 x.2.2) (Set.mem_univ (K (cell c x.1 x.2.1 x.2.2))))
    isplitr; · iapply (inv_cell P K c x.1 x.2.1 x.2.2); iexact HI
    isplitl [Ho]; · iexact Ho
    iexact Hv
  have h2 : iprop(allInv P K ∗ bigSep Finset.univ fun x : Fin 3 × Fin 2 × Fin 4 => iprop(openTok ER (cell c x.1 x.2.1 x.2.2) ∗ semVal (cell c x.1 x.2.1 x.2.2) 0))
      ⊢ bigSep Finset.univ fun x : Fin 3 × Fin 2 × Fin 4 => (iprop(|={Set.univ}=> (At c x.1 x.2.1 x.2.2 ∗ reached ER (cell c x.1 x.2.1 x.2.2) 0)) : sProp 𝕄) :=
    bigSep_with_persistent fun x _ => h1 x
  have h3 : (bigSep Finset.univ fun x : Fin 3 × Fin 2 × Fin 4 => (iprop(|={Set.univ}=> (At c x.1 x.2.1 x.2.2 ∗ reached ER (cell c x.1 x.2.1 x.2.2) 0)) : sProp 𝕄))
      ⊢ iprop(|={Set.univ}=> bigSep Finset.univ fun x : Fin 3 × Fin 2 × Fin 4 => iprop(At c x.1 x.2.1 x.2.2 ∗ reached ER (cell c x.1 x.2.1 x.2.2) 0)) :=
    bigSep_fupd _ _
  iintro ⟨#HI, Ho, Hv⟩
  ihave H := h2 $$ [Ho Hv]
  · isplitr; · iexact HI
    iapply (pair_up _ _ _)
    isplitl [Ho]; · iexact Ho
    iexact Hv
  imod h3 $$ H with H
  imodintro
  ihave H := (take_apart _ _ _) $$ H
  icases H with ⟨HA, HR⟩
  unfold Rch
  isplitl [HR]; · iexact HR
  iexact HA

/-- The kernel is entered with its counters opened. -/
theorem entry_open (c : Dev nD) : iprop(Tk (blkP m) c ∗ Pipeline.ownSems0 osem c ∗ levAts L lv) ⊢ (|={Set.univ}=> Xk (blkP m) c : sProp 𝕄) := by
  rw [own_zero]
  unfold Tk Xk
  iintro ⟨⟨⟨%K, #HI, Ho⟩, HR, HT, HC⟩, Hv, #Hlev⟩
  imod (open_all (blkP m) K c) $$ [Ho Hv] with ⟨HR', HA⟩
  · isplitr; · iexact HI
    isplitl [Ho]; · iexact Ho
    iexact Hv
  imodintro
  isplitl [HR' HA]
  · iexists K
    isplitr; · iexact HI
    isplitl [HR']; · iexact HR'
    iexact HA
  isplitl [HR]; · iexact HR
  isplitl [HT]; · iexact HT
  isplitl [HC]; · iexact HC
  iexact Hlev

/-! ## The first and last state of the body -/

omit [FloatOps F] in
/-- No buffer at all is held as nothing. -/
theorem held_none (c : Dev nD) (W : Valuation τ sig (Elt F)) : (StableHlo.held (c.tc : Thread nD τ) ∅ W : sProp 𝕄) = iprop(emp) := by
  unfold StableHlo.held; exact BI.bigSep_empty

theorem enter (c : Dev nD) (W : Valuation τ sig (Elt F)) :
    iprop(Pipeline.scopedRest spec0 c ∗ (∃ r, prngReg c r) ∗ StableHlo.held (c.tc : Thread nD τ) ∅ W ∗ Xk (blkP m) c) ⊢ Φ₀ m c := by
  rw [scopedRest0_eq, held_none]
  unfold Φ₀
  iintro ⟨HS, Hp, -, HX⟩
  isplitl [HX]; · iexact HX
  isplitl [HS]; · iexact HS
  iexact Hp

theorem leave (c : Dev nD) (W : Valuation τ sig (Elt F)) :
    Φ₁ (F := F) c ⊢ iprop(Pipeline.scopedRest spec0 c ∗ (∃ r, prngReg c r) ∗ StableHlo.held (c.tc : Thread nD τ) ∅ W ∗ Pipeline.ownSems0 osem c ∗ semVal (barCell c) 0) := by
  rw [scopedRest0_eq, held_none, own_zero]
  unfold Φ₁
  iintro ⟨HS, Hp, Hv, Hb⟩
  isplitl [HS]; · iexact HS
  isplitl [Hp]; · iexact Hp
  isplitr; · iempintro
  isplitl [Hv]; · iexact Hv
  iexact Hb

/-- What is owed at the start is owed at counters above the staging ones. -/
theorem owed_above (c : Dev nD) (g : GSem nD τ sig) (u : Unit) (h : 0 < O₀ c g u) : u ∈ L g ∧ 0 < lv g u := by
  have hbar (a : Fin 3) (h : 0 < (tallyAt (barCell (nb a c)) () 1 : CellTallies nD τ sig Unit) g u) : u ∈ L g ∧ 0 < lv g u := by
    obtain ⟨rfl, -⟩ := Pipeline.tallyAt_pos h
    exact ⟨by rw [L_tc]; exact Finset.mem_singleton_self _, Nat.one_pos⟩
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨p, -, rfl⟩ := owing_pos h
        refine ⟨by rw [L_tc]; exact Finset.mem_singleton_self _, ?_⟩
        rw [lv_cell]
        have : ∀ (a : Fin 3) (k : Fin 4), 0 < lvlOf a 1 k := by decide
        exact this _ _
      · exact hbar 2 h
    · exact hbar 1 h
  · exact hbar 0 h

/-! ## The record -/

/-- What the kernel leaves in its result's buffer. -/
def left (c : Dev nD) : Buf (Elt F) ((c : Thread nD τ).loc main_v22) := (pdats m 0 c).arrAt (1 : Fin 2) cfg0.N
/-- The buffers the kernel changes, at what it leaves. -/
def outs : Outs (F := F) := fun _ r c => Function.update (V3 m c) main_v22 (left m c) (Proc.devRef .tc r)
theorem V4_out (c : Dev nD) : V4 m (outs m) c main_v22 = left m c := by
  unfold V4 outs; rw [Function.update_self, Function.update_self]
theorem V4_in (c : Dev nD) : V4 m (outs m) c main_v21 = V3 m c main_v21 := V4_of m (outs m) c main_v21 (by decide)

theorem cut : Pipeline.LevelCutOwed (pcfgs (F := F)) adm (pdats m) () L lv 0 (fun _ => 0) where
  hι c w s := by rw [L_tc]; exact Finset.mem_singleton_self _
  hιb c w s := by
    have h : ∀ (w : Fin 2) (s : Fin (spec0 w).nbuf), ((spec0 w).sem s).val < 2 := by decide
    show lv ((c : Thread nD τ), .dma ((spec0 w).sem s)) () ≤ 0
    dsimp only [lv]; rw [if_pos (h w s)]
  hD c t g i h := by
    obtain ⟨t, ht⟩ := t
    match t, ht, h with
    | 0, _, h => exact owed_above c g i h
    | _ + 1, _, h => exact absurd h (Nat.lt_irrefl 0)

theorem last_pos : (Fin.last cfg0.N).val = 1 := N_0
theorem at_last (c : Dev nD) : (pdats m 0 c).Φ (Fin.last cfg0.N) = Φ₁ c := by
  rw [show Fin.last cfg0.N = (⟨1, by rw [show cfg0.N = 1 from N_0]; decide⟩ : Fin (cfg0.N + 1)) from Fin.ext last_pos]; rfl
theorem owed_last (c : Dev nD) : (pdats m 0 c).owed (Fin.last cfg0.N) = 0 := by
  rw [show Fin.last cfg0.N = (⟨1, by rw [show cfg0.N = 1 from N_0]; decide⟩ : Fin (cfg0.N + 1)) from Fin.ext last_pos]; rfl

/-- The unscoped buffers that are no window's. -/
abbrev others : Finset (DevRef τ sig) := Pipeline.ucRefs τ sig \ Pipeline.arrRefs (τ := τ) spec0
theorem arr_sub : Pipeline.arrRefs (τ := τ) spec0 ⊆ Pipeline.ucRefs τ sig := Pipeline.arrRefs_sub_ucRefs spec0 (by decide)
theorem off_arr {b : DevRef τ sig} (hb : b ∈ others) : b ≠ Proc.devRef .tc main_v22 := by
  rintro rfl
  exact (Finset.mem_sdiff.mp hb).2 (by decide)
theorem V4_others (c : Dev nD) : ∀ b ∈ others, V4 m (outs m) c b = V3 m c b := fun b hb => by
  unfold V4; exact Function.update_of_ne (off_arr hb) _ _

set_option backward.isDefEq.respectTransparency.types false in
/-- The kernel, as a region of the program. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) launch0.toP rfl (fun c => (body_obligation m c).loose)
    (fun _ => 0) O₀ (fun c => (zero_add _).symm) (fun c => owed_last m c) (fun _ => rfl)
    (fun c w => by unfold Dat.share; split <;> rfl)
    (V3 m) (V4 m (outs m)) (fun c b hb => V4_others m c b (Finset.mem_sdiff.mp hb).1)
    (Tk (blkP m)) (fun c => semVal (barCell c) 0) (Xk (blkP m)) (fun c => semVal (barCell c) 0)
    (entry_open m) (fun c => enter m c _) (fun c => (Entails.of_eq (at_last m c)).trans (leave c _))
    (fun c => by iintro H; imodintro; iexact H)
    (fun _ => 0) (cut m) (fun _ => iprop(emp))
    (fun c w => match w with
      | ⟨0, _⟩ => rfl
      | ⟨1, _⟩ => rfl)
    (fun c w => match w with
      | ⟨0, _⟩ => (Dat.arrAt_in (pdats m 0 c) (0 : Fin 2) rfl _).trans (V4_in m c).symm
      | ⟨1, _⟩ => (V4_out m c).symm)

/-- The thread's state around the host part: what the launch left it. -/
def E (j : Fin 2) (c : Dev nD) : sProp 𝕄 := match j with
  | 0 => iprop(Tk (blkP m) c ∗ (∃ r, prngReg c r) ∗ ∃ W, owes (c : Thread nD τ) (O₀ c) W)
  | 1 => iprop(semVal (barCell c) 0 ∗ ∃ W, owes (c : Thread nD τ) (0 : CellTallies nD τ sig Unit) W)

theorem reg_pre (c : Dev nD) : iprop(StableHlo.held (c : Thread nD τ) (Pipeline.ucRefs τ sig) (V3 m c) ∗ E m 0 c) ⊢ (reg m).pre c := by
  show _ ⊢ iprop(StableHlo.held (c.tc : Thread nD τ) (Pipeline.arrRefs (τ := τ) spec0) (V3 m c) ∗ (∃ r, prngReg c r)
    ∗ (StableHlo.held (c.tc : Thread nD τ) others (V3 m c) ∗ emp) ∗ Tk (blkP m) c ∗ ∃ Wd, owes (c : Thread nD τ) (0 + O₀ c) Wd)
  rw [StableHlo.held_sub_split (c.tc : Thread nD τ) arr_sub (V3 m c), zero_add]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (V4 m (outs m) c) ∗ E m 1 c) := by
  show iprop(StableHlo.held (c.tc : Thread nD τ) (Pipeline.arrRefs (τ := τ) spec0) (V4 m (outs m) c) ∗ (∃ r, prngReg c r)
    ∗ (StableHlo.held (c.tc : Thread nD τ) others (V4 m (outs m) c) ∗ emp) ∗ semVal (barCell c) 0 ∗ ∃ Wd, owes (c : Thread nD τ) (0 : CellTallies nD τ sig Unit) Wd) ⊢ _
  rw [StableHlo.held_sub_split (c.tc : Thread nD τ) arr_sub (V4 m (outs m) c)]
  unfold E
  iintro ⟨Ha, -, ⟨Hr, -⟩, Hb, HO⟩
  isplitl [Ha Hr]
  · isplitl [Ha]; · iexact Ha
    iexact Hr
  isplitl [Hb]; · iexact Hb
  iexact HO

end Cert.GradProof
-- ==== Proof.HostVal.lean ====
/-
# What the operations before the kernel compute

A device works out its places along y and z from its number, takes the 1024 rows of each argument that its places name, and
multiplies them, contracting their columns. Rounded to 16 bits, that product is the kernel's operand.
-/
module

public import proofs.«01_k».proof.Proof.Record
public import Idealize.ShloMosaic.Lib.Pipeline.Value

@[expose] public section

noncomputable section

namespace Cert.GradProof

open Cert.KernelIdeal Cert.KernelIdeal.Gen
open Idealize.ShloMosaic
open Idealize.ShloMosaic.TcCoe

variable {F : FTy → Type} [FloatOps F]

/-- The 1024 rows from row `o` on. -/
def rows {α : Type} (A : S2048x8192.Idx → α) (o : ℕ) (ho : o ≤ 1024) : S1024x8192.Idx → α := fun i =>
  A (ix (o + (i 0).val) (i 1).val (by have : (i 0).val < 1024 := (i 0).isLt; omega) (i 1).isLt)

/-- A slice that starts at row `o` and column zero is the 1024 rows from row `o` on. -/
theorem slice_rows {α : Type} (A : S2048x8192.Idx → α) (start : Fin 2 → ℤ) (o : ℕ) (ho : o ≤ 1024) (h0 : start 0 = o) (h1 : start 1 = 0) :
    Host.dynamicSlice S1024x8192 A start sliceFits_S2048x8192_S1024x8192 = rows A o ho := by
  funext i
  unfold Host.dynamicSlice extractStridedSlice rows
  dsimp only
  refine congrArg A (ix_ext ?_ ?_)
  · show (min (max (start 0) 0) ((2048 - 1024 : ℕ) : ℤ)).toNat + (i 0).val = o + (i 0).val
    rw [h0]; omega
  · show (min (max (start 1) 0) ((8192 - 8192 : ℕ) : ℤ)).toNat + (i 1).val = (i 1).val
    rw [h1]; omega

/-- The kernel's operand, from the two row offsets `a`, `b` and the two arguments. -/
def operand (A B : S2048x8192.Idx → Elt F .f32) (a b : ℕ) (ha : a < 2) (hb : b < 2) : CP (F := F) :=
  truncf .bf16 (Host.dotGeneral dot_S1024x8192_S1024x8192_S1024x1024_1_1_0_0_n_n none
    (rows A (1024 * a) (by omega)) (rows B (1024 * b) (by omega))) bitsLt_bf16_f32

/-- 1024 times a word, 2048 added were it negative. -/
def offset (x : IVec S_ 32) : IVec S_ 32 :=
  let y := muli x (constantI S_ 32 1024#32)
  select (cmpi .slt y (constantI S_ 32 0#32)) (addi y (constantI S_ 32 2048#32)) y
theorem offset_at (a : Fin 2) (i : S_.Idx) : (offset (fun _ => BitVec.ofNat 32 a.val) i).toInt = ((1024 * a.val : ℕ) : ℤ) := by
  obtain rfl : i = fun x => x.elim0 := funext fun x => x.elim0
  revert a; decide +kernel

/-- The last stretch of operations leaves the operand in its buffer, the two offsets being given. -/
theorem last_ops (W : Valuation τ sig (Elt F)) (a b : ℕ) (ha : a < 2) (hb : b < 2) (h4 : W main_v4 = fun _ => BitVec.ofNat 32 a)
    (h9 : W main_v9 = fun _ => BitVec.ofNat 32 b) :
    StableHlo.after hostOps0_2 W main_v21 = operand (W main_arg0) (W main_arg1) a b ha hb := by
  after_results_simp
  refine congrArg (fun z => truncf .bf16 z bitsLt_bf16_f32) (congrArg₂ (Host.dotGeneral _ none)
    (slice_rows _ _ (1024 * a) (by omega) ?_ ?_) (slice_rows _ _ (1024 * b) (by omega) ?_ ?_))
  · simp only [Matrix.cons_val_zero]
    after_results_simp
    rw [h4]
    exact offset_at ⟨a, ha⟩ _
  · simp only [Matrix.cons_val_one, Matrix.cons_val_zero]
    after_results_simp
    rfl
  · simp only [Matrix.cons_val_zero]
    after_results_simp
    rw [h9]
    exact offset_at ⟨b, hb⟩ _
  · simp only [Matrix.cons_val_one, Matrix.cons_val_zero]
    after_results_simp
    rfl

/-- The remainder on division by two as the program takes it: the divisor replaced by one were it zero, and added back where
    the signs differ. -/
def remTwo (x : IVec S_ 32) : IVec S_ 32 :=
  let d : IVec S_ 32 := select (cmpi .eq (fun _ => 2#32) (constantI S_ 32 0#32)) (constantI S_ 32 1#32) (fun _ => 2#32)
  let r := Host.remsi x d
  select (andi (cmpi .ne (cmpi .slt r (constantI S_ 32 0#32)) (cmpi .slt d (constantI S_ 32 0#32))) (cmpi .ne r (constantI S_ 32 0#32)))
    (addi r d) r
theorem remTwo_at : ∀ a : Fin 4, remTwo (fun _ => BitVec.ofNat 32 a.val) (fun x => x.elim0) = BitVec.ofNat 32 (a.val % 2) := by decide +kernel

/-- The second stretch takes the place along z modulo two. -/
theorem mid_ops (W : Valuation τ sig (Elt F)) (a : ℕ) (ha : a < 4) (h8 : W main_v8 = fun _ => BitVec.ofNat 32 a)
    (h3 : W main_c_3 = fun _ => 2#32) : StableHlo.after hostOps0_1 W main_v9 = fun _ => BitVec.ofNat 32 (a % 2) := by
  after_results_simp
  rw [h8, h3]
  funext i
  obtain rfl : i = fun x => x.elim0 := funext fun x => x.elim0
  simp only [StableHlo.TRef.toBuf, StableHlo.TRef.ofBuf, cast_eq]
  exact remTwo_at ⟨a, ha⟩

theorem word_y : ∀ c : Dev nD, (c.word / 4#32) % 2#32 = BitVec.ofNat 32 (yc c) := by decide +kernel
theorem word_z : ∀ c : Dev nD, (c.word / 1#32) % 4#32 = BitVec.ofNat 32 (c.val % 4) := by decide +kernel

/-- The first stretch: the place along y modulo two, -/
theorem first_y (W : Valuation τ sig (Elt F)) (c : Dev nD) : StableHlo.after (hostOps0 c) W main_v4 = fun _ => BitVec.ofNat 32 (yc c) := by
  after_results_simp
  funext i
  exact word_y c
/-- the place along z, -/
theorem first_z (W : Valuation τ sig (Elt F)) (c : Dev nD) : StableHlo.after (hostOps0 c) W main_v8 = fun _ => BitVec.ofNat 32 (c.val % 4) := by
  after_results_simp
  funext i
  exact word_z c
/-- and the number two. -/
theorem first_two (W : Valuation τ sig (Elt F)) (c : Dev nD) : StableHlo.after (hostOps0 c) W main_c_3 = fun _ => 2#32 := by
  after_results_simp
  rfl

variable (m : (ℓ : Loc nD τ sig) → Buf (Elt F) ℓ)

theorem z_mod (c : Dev nD) : c.val % 4 % 2 = zc c := by revert c; decide

/-- The operand's buffer before the kernel, from the two arguments. -/
theorem V3_operand (c : Dev nD) : V3 m c main_v21
    = operand (m ((c : Thread nD τ).loc main_arg0)) (m ((c : Thread nD τ).loc main_arg1)) (yc c) (zc c) (yc_lt c) (zc_lt c) := by
  have e0 : V2 m c main_arg0 = m ((c : Thread nD τ).loc main_arg0) := by rw [V2_of m c _ (by decide), V1_of m c _ (by decide)]
  have e1 : V2 m c main_arg1 = m ((c : Thread nD τ).loc main_arg1) := by rw [V2_of m c _ (by decide), V1_of m c _ (by decide)]
  have h4 : V2 m c main_v4 = fun _ => BitVec.ofNat 32 (yc c) := by rw [V2_of m c _ (by decide)]; exact first_y _ c
  have h9 : V2 m c main_v9 = fun _ => BitVec.ofNat 32 (zc c) := by
    rw [← z_mod]; exact mid_ops _ _ (Nat.mod_lt _ (by decide)) (first_z _ c) (first_two _ c)
  rw [← e0, ← e1]
  exact last_ops (V2 m c) _ _ _ _ h4 h9

/-- The block a device contributes is the operand: the whole buffer is staged. -/
theorem blkP_eq (c : Dev nD) : blkP m c
    = operand (m ((c : Thread nD τ).loc main_arg0)) (m ((c : Thread nD τ).loc main_arg1)) (yc c) (zc c) (yc_lt c) (zc_lt c) := by
  rw [← V3_operand]
  funext i
  unfold blkP
  refine congrArg (V3 m c main_v21) (ix_ext ?_ ?_)
  · show 0 + 1 * (i 0).val = (i 0).val; omega
  · show 0 + 1 * (i 1).val = (i 1).val; omega

/-- The result's buffer ends at the whole result: the kernel's one block covers it. -/
theorem left_eq (c : Dev nD) : left m c = Out (blkP m) c := by
  refine (pdats m 0 c).arrAt_eq_of_cover (1 : Fin 2) (Out (blkP m) c) (fun t _ => ?_) (fun i => ⟨t0_0, rfl, ?_⟩)
  · obtain rfl := fin_N0 t
    funext i
    refine congrArg (Out (blkP m) c) (ix_ext ?_ ?_)
    · show (i 0).val = 0 + 1 * (i 0).val; omega
    · show (i 1).val = 0 + 1 * (i 1).val; omega
  · show i ∈ ((View.whole main_v22).slice (win0_1.rect t0_0)).set
    rw [View.set_slice_whole, Rect.mem_set_unit]
    intro a
    fin_cases a
    · exact ⟨Nat.zero_le _, (i 0).isLt.trans_eq rfl⟩
    · exact ⟨Nat.zero_le _, (i 1).isLt.trans_eq rfl⟩

end Cert.GradProof
-- ==== Proof.IdealVal.lean ====
/-
# The result at the ideal values

Read over the extended reals, where rounding to 16 bits and widening change nothing, the block a device contributes is the sum
over its 8192 columns of the products of its rows, and every element of the result is the sum over all 16384 columns.
-/
module

public import proofs.«01_k».proof.Proof.HostVal
public import proofs.«01_k».proof.Proof.Gen.ReferenceIdeal.Run
public import Idealize.ShloMosaic.Lib.StackMember

@[expose] public section

noncomputable section

namespace Cert.GradProof

open Cert.KernelIdeal Cert.KernelIdeal.Gen
open Idealize.ShloMosaic
open Idealize.ShloMosaic.TcCoe

open Idealize.ShloMosaic.ValueIdx (contrEquiv1 contrEquiv1_symm_val)

/-- An element of the operand: the sum over the columns held of the products of the two rows. -/
theorem operand_at (A B : S2048x8192.Idx → Elt Ideal .f32) (a b : ℕ) (ha : a < 2) (hb : b < 2) (i : S1024x1024.Idx) :
    operand (F := Ideal) A B a b ha hb i = ∑ k : Fin 8192,
      (rows A (1024 * a) (by omega) (ix (i 0).val k.val (i 0).isLt k.isLt) * rows B (1024 * b) (by omega) (ix (i 1).val k.val (i 1).isLt k.isLt) : EReal) := by
  refine Eq.trans (b := Host.dotGeneral (F := Ideal) (φ₁ := .f32) (φ₂ := .f32) dot_S1024x8192_S1024x8192_S1024x1024_1_1_0_0_n_n none
    (rows A (1024 * a) (by omega)) (rows B (1024 * b) (by omega)) i) rfl ?_
  simp only [Host.dotGeneral]
  rw [Ideal.dotGeneral_apply, ← Equiv.sum_comp (contrEquiv1 dot_S1024x8192_S1024x8192_S1024x1024_1_1_0_0_n_n 8192 rfl rfl).symm]
  refine Finset.sum_congr rfl fun k _ => ?_
  have hk := contrEquiv1_symm_val dot_S1024x8192_S1024x8192_S1024x1024_1_1_0_0_n_n 8192 rfl rfl k
  have l : dot_S1024x8192_S1024x8192_S1024x1024_1_1_0_0_n_n.lhsIdx i ((contrEquiv1 _ 8192 rfl rfl).symm k)
      = (ix (i 0).val k.val (i 0).isLt k.isLt : S1024x8192.Idx) := ix_ext (by simp [DotDims.lhsIdx, dot_S1024x8192_S1024x8192_S1024x1024_1_1_0_0_n_n]; rfl) (by simp [DotDims.lhsIdx, dot_S1024x8192_S1024x8192_S1024x1024_1_1_0_0_n_n]; exact hk)
  have r : dot_S1024x8192_S1024x8192_S1024x1024_1_1_0_0_n_n.rhsIdx i ((contrEquiv1 _ 8192 rfl rfl).symm k)
      = (ix (i 1).val k.val (i 1).isLt k.isLt : S1024x8192.Idx) := ix_ext (by simp [DotDims.rhsIdx, dot_S1024x8192_S1024x8192_S1024x1024_1_1_0_0_n_n]; rfl) (by simp [DotDims.rhsIdx, dot_S1024x8192_S1024x8192_S1024x1024_1_1_0_0_n_n]; exact hk)
  rw [l, r]

/-- The reference's result. -/
def refOut (A B : Cert.ReferenceIdeal.S2048x16384.Idx → Elt Ideal .f32) : Cert.ReferenceIdeal.S2048x2048.Idx → Elt Ideal .f32 :=
  Host.dotGeneral (F := Ideal) (φ₁ := .f32) (φ₂ := .f32) Cert.ReferenceIdeal.dot_S2048x16384_S16384x2048_S2048x2048_1_0_0_1_n_n none A
    (transpose Cert.ReferenceIdeal.S16384x2048 [1, 0] B)

/-- An element of it: the sum over all columns of the products of the two rows. -/
theorem refOut_at (A B : Cert.ReferenceIdeal.S2048x16384.Idx → Elt Ideal .f32) (i : Cert.ReferenceIdeal.S2048x2048.Idx) :
    refOut A B i = ∑ k : Fin 16384, (A (ix (i 0).val k.val (i 0).isLt k.isLt) * B (ix (i 1).val k.val (i 1).isLt k.isLt) : EReal) := by
  unfold refOut
  simp only [Host.dotGeneral]
  rw [Ideal.dotGeneral_apply, ← Equiv.sum_comp (contrEquiv1 Cert.ReferenceIdeal.dot_S2048x16384_S16384x2048_S2048x2048_1_0_0_1_n_n 16384 rfl rfl).symm]
  refine Finset.sum_congr rfl fun k _ => ?_
  have hk := contrEquiv1_symm_val Cert.ReferenceIdeal.dot_S2048x16384_S16384x2048_S2048x2048_1_0_0_1_n_n 16384 rfl rfl k
  have l : Cert.ReferenceIdeal.dot_S2048x16384_S16384x2048_S2048x2048_1_0_0_1_n_n.lhsIdx i ((contrEquiv1 _ 16384 rfl rfl).symm k)
      = (ix (i 0).val k.val (i 0).isLt k.isLt : Cert.ReferenceIdeal.S2048x16384.Idx) := ix_ext (by simp [DotDims.lhsIdx, Cert.ReferenceIdeal.dot_S2048x16384_S16384x2048_S2048x2048_1_0_0_1_n_n]; rfl) (by simp [DotDims.lhsIdx, Cert.ReferenceIdeal.dot_S2048x16384_S16384x2048_S2048x2048_1_0_0_1_n_n]; exact hk)
  have r : Cert.ReferenceIdeal.dot_S2048x16384_S16384x2048_S2048x2048_1_0_0_1_n_n.rhsIdx i ((contrEquiv1 _ 16384 rfl rfl).symm k)
      = (ix k.val (i 1).val k.isLt (i 1).isLt : Cert.ReferenceIdeal.S16384x2048.Idx) := ix_ext (by simp [DotDims.rhsIdx, Cert.ReferenceIdeal.dot_S2048x16384_S16384x2048_S2048x2048_1_0_0_1_n_n]; exact hk) (by simp [DotDims.rhsIdx, Cert.ReferenceIdeal.dot_S2048x16384_S16384x2048_S2048x2048_1_0_0_1_n_n]; rfl)
  rw [l, r]
  refine congrArg (fun z => (A _ * z : EReal)) (congrArg B (ix_ext rfl rfl))

section Whole
variable (A B : Cert.ReferenceIdeal.S2048x16384.Idx → Elt Ideal .f32)

/-- The part of a whole argument that device `c` holds: 8192 of its columns. -/
def part (c : Dev nD) (X : Cert.ReferenceIdeal.S2048x16384.Idx → Elt Ideal .f32) : S2048x8192.Idx → Elt Ideal .f32 :=
  Layout.blockN ⟨2, ![2048, 8192]⟩ ⟨2, ![2048, 16384]⟩ (Layout.meshBlock [2, 2, 4] ![[], [0]] c) X

theorem xc_lt (c : Dev nD) : xc c < 2 := by revert c; decide
theorem block_row (c : Dev nD) : ((Layout.meshBlock (n := 16) [2, 2, 4] ![[], [0]] c) (0 : Fin 2)).val = 0 := by revert c; decide
theorem block_col (c : Dev nD) : ((Layout.meshBlock (n := 16) [2, 2, 4] ![[], [0]] c) (1 : Fin 2)).val = xc c := by revert c; decide

/-- The columns device `c` holds are those from `8192 · x` on. -/
theorem part_at (c : Dev nD) (X : Cert.ReferenceIdeal.S2048x16384.Idx → Elt Ideal .f32) (i : S2048x8192.Idx) (j : Cert.ReferenceIdeal.S2048x16384.Idx)
    (h0 : (j 0).val = (i 0).val) (h1 : (j 1).val = 8192 * xc c + (i 1).val) : part c X i = X j := by
  refine congrArg X (ix_ext ?_ ?_)
  · show ((Layout.meshBlock (n := 16) [2, 2, 4] ![[], [0]] c) (0 : Fin 2)).val * 2048 + (i 0).val = _
    rw [block_row, h0]; omega
  · show ((Layout.meshBlock (n := 16) [2, 2, 4] ![[], [0]] c) (1 : Fin 2)).val * 8192 + (i 1).val = _
    rw [block_col, h1]; omega

/-- The sum over the columns held at `x` of the products of row `r` of `A` and row `q` of `B`. -/
def half_sum (x : ℕ) (hx : x < 2) (r q : ℕ) (hr : r < 2048) (hq : q < 2048) : EReal :=
  ∑ k : Fin 8192, (A (ix r (8192 * x + k.val) hr (by omega)) * B (ix q (8192 * x + k.val) hq (by omega)) : EReal)

/-- The two half sums make the sum over all columns. -/
theorem halves_sum (i : Cert.ReferenceIdeal.S2048x2048.Idx) :
    half_sum A B 0 (by decide) (i 0).val (i 1).val (i 0).isLt (i 1).isLt + half_sum A B 1 (by decide) (i 0).val (i 1).val (i 0).isLt (i 1).isLt
      = refOut A B i := by
  rw [refOut_at]
  refine (Eq.symm ?_).trans (Fin.sum_univ_add (M := EReal) (a := 8192) (b := 8192) fun k : Fin (8192 + 8192) =>
    A (ix (i 0).val k.val (i 0).isLt k.isLt) * B (ix (i 1).val k.val (i 1).isLt k.isLt)).symm
  unfold half_sum
  refine congrArg₂ _ (Finset.sum_congr rfl fun k _ => ?_) (Finset.sum_congr rfl fun k _ => ?_)
  · exact congrArg₂ _ (congrArg A (ix_ext rfl (by show k.val = _; show _ = 8192 * 0 + k.val; omega))) (congrArg B (ix_ext rfl (by show k.val = 8192 * 0 + k.val; omega)))
  · exact congrArg₂ _ (congrArg A (ix_ext rfl (by show 8192 + k.val = 8192 * 1 + k.val; omega))) (congrArg B (ix_ext rfl (by show 8192 + k.val = 8192 * 1 + k.val; omega)))

/-- The block device `c` contributes. -/
def blk (c : Dev nD) : CP (F := Ideal) := operand (F := Ideal) (part c A) (part c B) (yc c) (zc c) (yc_lt c) (zc_lt c)

theorem blk_at (c : Dev nD) (j : S1024x1024.Idx) (r q : ℕ) (hr : r < 2048) (hq : q < 2048) (h0 : r = 1024 * yc c + (j 0).val)
    (h1 : q = 1024 * zc c + (j 1).val) : blk A B c j = half_sum A B (xc c) (xc_lt c) r q hr hq := by
  unfold blk half_sum
  rw [operand_at]
  refine Finset.sum_congr rfl fun k _ => congrArg₂ _ ?_ ?_
  · exact part_at c A _ _ h0 rfl
  · exact part_at c B _ _ h1 rfl

theorem x_pair (c : Dev nD) : (xc c = 0 ∧ xc (nb 0 c) = 1) ∨ (xc c = 1 ∧ xc (nb 0 c) = 0) := by revert c; decide

/-- A block summed over x: the sum over all columns. -/
theorem S_at (c : Dev nD) (j : S1024x1024.Idx) (i : Cert.ReferenceIdeal.S2048x2048.Idx) (h0 : (i 0).val = 1024 * yc c + (j 0).val)
    (h1 : (i 1).val = 1024 * zc c + (j 1).val) : S (blk A B) c j = refOut A B i := by
  have e : S (blk A B) c j = (blk A B c j + blk A B (nb 0 c) j : EReal) := rfl
  rw [e, ← halves_sum, blk_at A B c j _ _ (i 0).isLt (i 1).isLt h0 h1,
    blk_at A B (nb 0 c) j _ _ (i 0).isLt (i 1).isLt (by rw [yc_nb0]; exact h0) (by rw [zc_nb0]; exact h1)]
  obtain ⟨ha, hb⟩ | ⟨ha, hb⟩ := x_pair c
  · simp only [ha, hb]
  · simp only [ha, hb]; exact add_comm _ _

theorem Z_at (c : Dev nD) (j : S2048x1024.Idx) (i : Cert.ReferenceIdeal.S2048x2048.Idx) (h0 : (i 0).val = (j 0).val)
    (h1 : (i 1).val = 1024 * zc c + (j 1).val) : Z (blk A B) c j = refOut A B i := by
  have hj : (j 0).val < 2048 := (j 0).isLt
  have hy := yc_lt c
  unfold Z
  split
  · rename_i h
    refine S_at A B c _ i ?_ h1
    show _ = 1024 * yc c + (j 0).val % 1024; omega
  · rename_i h
    refine S_at A B (nb 1 c) _ i ?_ ?_
    · rw [yc_nb1]; show _ = 1024 * (1 - yc c) + (j 0).val % 1024; omega
    · rw [zc_nb1]; exact h1

/-- The whole result is the reference's, on every device. -/
theorem Out_eq (c : Dev nD) : Out (blk A B) c = refOut A B := by
  funext i
  have hi : (i 1).val < 2048 := (i 1).isLt
  have hz := zc_lt c
  refine Eq.trans (b := if (i 1).val / 1024 = zc c then Z (blk A B) c (inCol i) else Z (blk A B) (nb 2 c) (inCol i)) rfl ?_
  split
  · rename_i h
    refine Z_at A B c _ i rfl ?_
    show _ = 1024 * zc c + (i 1).val % 1024; omega
  · rename_i h
    refine Z_at A B (nb 2 c) _ i rfl ?_
    rw [zc_nb2]; show _ = 1024 * (1 - zc c) + (i 1).val % 1024; omega

end Whole

/-- What the kernel leaves in its result's buffer, its arguments being the devices' parts of two whole arrays: the reference's
    result. -/
theorem left_ref (m : (ℓ : Loc nD τ sig) → Buf (Elt Ideal) ℓ) (A B : Cert.ReferenceIdeal.S2048x16384.Idx → Elt Ideal .f32)
    (hA : ∀ c : Dev nD, m ((c : Thread nD τ).loc main_arg0) = part c A) (hB : ∀ c : Dev nD, m ((c : Thread nD τ).loc main_arg1) = part c B)
    (c : Dev nD) : left m c = refOut A B := by
  have e : blkP m = blk A B := by
    funext d
    rw [blkP_eq, hA, hB]; rfl
  rw [left_eq, e]
  exact Out_eq A B c

end Cert.GradProof
-- ==== Proof.Deal.lean ====
/-
# What the launch deals

Each device's credit for what others owe it, and the rights to pay, each handed to the device that pays.
-/
module

public import proofs.«01_k».proof.Proof.Record

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Credit -/

/-- Credit for the sends `l` of every device, at the devices that receive them. -/
theorem send_credit (c : Dev nD) : ∀ l : List (Fin 3 × Fin 4), (Pipeline.launchCred (fun d => owing d l) c : sProp 𝕄) ⊢ bigSepL l fun p => Cr c p.1 1 p.2
  | [] => by
    rw [list_nil]; iintro -; iempintro
  | p :: l => by
    rw [list_cons, show (fun d : Dev nD => owing d (p :: l)) = fun d => owing d l + tallyAt (cell (nb p.1 d) p.1 1 p.2) () (N p.2) from rfl, Pipeline.launchCred_add]
    iintro ⟨Hl, Hp⟩
    isplitl [Hp]
    · unfold Cr
      iapply (Pipeline.launchCred_tallyAt (.dma (dsem p.1 1 p.2)) (nb p.1) (nb p.1) (nb_nb p.1) (nb_nb p.1) () (N p.2) c); iexact Hp
    iapply (send_credit c l); iexact Hl

/-- Credit for the barrier signal of the neighbour along axis `a`. -/
theorem bar_credit (a : Fin 3) (c : Dev nD) : (Pipeline.launchCred (fun d => tallyAt (barCell (nb a d)) () 1) c : sProp 𝕄) ⊢ cred (tallyAt (barCell c) () 1) :=
  Pipeline.launchCred_tallyAt (.reg barS) (nb a) (nb a) (nb_nb a) (nb_nb a) () 1 c

/-- All of a device's credit. -/
theorem all_credit (c : Dev nD) : (Pipeline.launchCred O₀ c : sProp 𝕄) ⊢ Creds c := by
  rw [show (O₀ : Dev nD → CellTallies nD τ sig Unit) = fun d => owing d sends + tallyAt (barCell (nb 2 d)) () 1 + tallyAt (barCell (nb 1 d)) () 1 + tallyAt (barCell (nb 0 d)) () 1 from rfl,
    Pipeline.launchCred_add, Pipeline.launchCred_add, Pipeline.launchCred_add]
  iintro ⟨⟨⟨Hl, H2⟩, H1⟩, H0⟩
  ihave H0 := (bar_credit 0 c) $$ H0
  ihave H1 := (bar_credit 1 c) $$ H1
  ihave H2 := (bar_credit 2 c) $$ H2
  have hl := send_credit (F := F) c sends
  simp only [list_cons, list_nil, sep_emp_eq''] at hl
  ihave Hl := hl $$ Hl
  unfold Creds
  icases Hl with ⟨H00, H01, H10, H20, H02, H11, H21, H20b, H03, H12, H22, H21b, H13, H23, H22b, H23b⟩
  isplitl [H0 H1 H2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H0]; · iexact H0
    iapply (cred_add _ _).2
    isplitl [H1]; · iexact H1
    iexact H2
  unfold four
  isplitl [H00 H01 H02 H03]
  · isplitl [H00]; · iexact H00
    isplitl [H01]; · iexact H01
    isplitl [H02]; · iexact H02
    iexact H03
  isplitl [H10 H11 H12 H13]
  · isplitl [H10]; · iexact H10
    isplitl [H11]; · iexact H11
    isplitl [H12]; · iexact H12
    iexact H13
  isplitl [H20 H21 H22 H23]
  · isplitl [H20]; · iexact H20
    isplitl [H21]; · iexact H21
    isplitl [H22]; · iexact H22
    iexact H23
  isplitl [H20b]; · iexact H20b
  isplitl [H21b]; · iexact H21b
  isplitl [H22b]; · iexact H22b
  iexact H23b

/-! ## Rights to pay -/

/-- A device of the mesh with a barrier duty, as the name of that duty. -/
def barTok : Dev nD × Fin 3 ↪ GSem nD τ sig × ℕ × D := ⟨fun x => (barCell x.1, 0, x.2), fun _ _ h =>
  Prod.ext (congrArg (fun t : GSem nD τ sig × ℕ × D => t.1.1.1) h) (congrArg (fun t : GSem nD τ sig × ℕ × D => t.2.2) h)⟩
/-- A device with an axis, one of two duties, a chunk and a side, as the name of that duty. -/
def cellTok : Dev nD × Fin 3 × Fin 2 × Fin 4 × Fin 2 ↪ GSem nD τ sig × ℕ × D :=
  ⟨fun x => (cell x.1 x.2.1 x.2.2.2.2 x.2.2.2.1, 0, x.2.2.1.castSucc), fun x y h => by
    have hc := congrArg (fun t : GSem nD τ sig × ℕ × D => t.1.1.1) h
    have hs : dsem x.2.1 x.2.2.2.2 x.2.2.2.1 = dsem y.2.1 y.2.2.2.2 y.2.2.2.1 := SemLoc.dma.inj (congrArg (fun t : GSem nD τ sig × ℕ × D => t.1.2) h)
    have hd := congrArg (fun t : GSem nD τ sig × ℕ × D => t.2.2) h
    obtain ⟨ha, hb, hk⟩ := dsem_inj hs
    exact Prod.ext hc (Prod.ext ha (Prod.ext (Fin.castSucc_injective _ hd) (Prod.ext hk hb)))⟩
/-- Every duty of the run. -/
def toks : Finset (GSem nD τ sig × ℕ × D) := Finset.univ.map barTok ∪ Finset.univ.map cellTok
theorem toks_apart : Disjoint (Finset.univ.map barTok) (Finset.univ.map cellTok) := by
  rw [Finset.disjoint_left]
  rintro g h₁ h₂
  obtain ⟨x, -, rfl⟩ := Finset.mem_map.mp h₁
  obtain ⟨y, -, h⟩ := Finset.mem_map.mp h₂
  exact absurd (congrArg (fun t : GSem nD τ sig × ℕ × D => t.1.2) h) (fun h => nomatch h)

/-- Who pays a barrier duty: the neighbour. -/
def barPayer : Dev nD × Fin 3 ≃ Dev nD × Fin 3 :=
  ⟨fun x => (nb x.2 x.1, x.2), fun x => (nb x.2 x.1, x.2), fun x => by simp only [nb_nb], fun x => by simp only [nb_nb]⟩
/-- Who pays a transfer counter's duty: the device itself on the sending side, the neighbour on the receiving side. -/
def cellPayer : Dev nD × Fin 3 × Fin 2 × Fin 4 × Fin 2 ≃ Dev nD × Fin 3 × Fin 2 × Fin 4 × Fin 2 :=
  ⟨fun x => (if x.2.2.2.2 = 0 then x.1 else nb x.2.1 x.1, x.2), fun x => (if x.2.2.2.2 = 0 then x.1 else nb x.2.1 x.1, x.2),
    fun x => by rcases x with ⟨c, y⟩; by_cases h : y.2.2.2 = 0 <;> simp only [h, if_true, if_false, nb_nb],
    fun x => by rcases x with ⟨c, y⟩; by_cases h : y.2.2.2 = 0 <;> simp only [h, if_true, if_false, nb_nb]⟩

/-- The right to signal each neighbour. -/
def BarT (c : Dev nD) : sProp 𝕄 := bigSep Finset.univ fun a : Fin 3 => dutyTok ER (barCell (nb a c)) 0 a

theorem three_eq (f : Fin 3 → sProp 𝕄) : bigSep Finset.univ f = iprop(f 0 ∗ f 1 ∗ f 2) := by
  rw [bigSep_univ_eq_bigSepL [(0 : Fin 3), 1, 2] (by decide) (by decide)]
  simp only [list_cons, list_nil, sep_emp_eq'']
theorem four_eq (f : Fin 4 → sProp 𝕄) : bigSep Finset.univ f = four f := by
  rw [bigSep_univ_eq_bigSepL [(0 : Fin 4), 1, 2, 3] (by decide) (by decide)]
  simp only [list_cons, list_nil, sep_emp_eq'']; rfl
theorem two_eq (f : Fin 2 → sProp 𝕄) : bigSep Finset.univ f = iprop(f 0 ∗ f 1) := by
  rw [bigSep_univ_eq_bigSepL [(0 : Fin 2), 1] (by decide) (by decide)]
  simp only [list_cons, list_nil, sep_emp_eq'']

/-- A device's duties on transfer counters are those of its sends. -/
theorem own_sends (c : Dev nD) : (bigSep Finset.univ fun y : Fin 3 × Fin 2 × Fin 4 × Fin 2 =>
    (dutyTok ER (cell (if y.2.2.2 = 0 then c else nb y.1 c) y.1 y.2.2.2 y.2.2.1) 0 y.2.1.castSucc : sProp 𝕄)) ⊢ Toks c := by
  simp only [bigSep_univ_prod, three_eq, two_eq, four_eq]
  unfold Toks Tok
  iintro ⟨⟨H00, -⟩, ⟨H10, -⟩, H20, H21⟩
  isplitl [H00]; · iexact H00
  isplitl [H10]; · iexact H10
  isplitl [H20]; · iexact H20
  iexact H21

/-- The rights to pay, handed to the devices that pay. -/
theorem deal : bigSep toks (fun x => (dutyTok ER x.1 x.2.1 x.2.2 : sProp 𝕄)) ⊢ bigSep Finset.univ fun c : Dev nD => iprop(BarT c ∗ Toks c) := by
  have h1 : bigSep (Finset.univ.map barTok) (fun x => (dutyTok ER x.1 x.2.1 x.2.2 : sProp 𝕄)) ⊢ bigSep Finset.univ fun c : Dev nD => BarT c :=
    Entails.of_eq (by rw [bigSep_map, bigSep_univ_equiv barPayer, bigSep_univ_prod]; rfl)
  have h2 : bigSep (Finset.univ.map cellTok) (fun x => (dutyTok ER x.1 x.2.1 x.2.2 : sProp 𝕄)) ⊢ bigSep Finset.univ fun c : Dev nD => Toks c :=
    (Entails.of_eq (by rw [bigSep_map, bigSep_univ_equiv cellPayer, bigSep_univ_prod]; rfl)).trans (bigSep_mono fun c _ => own_sends c)
  unfold toks
  rw [bigSep_union2 toks_apart]
  iintro ⟨H1, H2⟩
  iapply (pair_up _ _ _)
  isplitl [H1]; · iapply h1; iexact H1
  iapply h2; iexact H2

end Cert.GradProof
-- ==== Proof.Launch.lean ====
/-
# The run of the program

From any memory with every counter at zero the program ends with its arguments unchanged, each device's result at what the
kernel leaves there, and every counter at zero again.
-/
module

public import proofs.«01_k».proof.Proof.Deal

@[expose] public section

noncomputable section

namespace Cert.GradProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The counters -/

def barEmb : Dev nD ↪ GSem nD τ sig := ⟨fun c => barCell c, fun _ _ h => congrArg (fun g : GSem nD τ sig => g.1.1) h⟩
def cellEmb : Dev nD × Fin 3 × Fin 2 × Fin 4 ↪ GSem nD τ sig := ⟨fun x => cell x.1 x.2.1 x.2.2.1 x.2.2.2, fun x y h => by
  obtain ⟨ha, hb, hk⟩ := dsem_inj (SemLoc.dma.inj (congrArg Prod.snd h))
  exact Prod.ext (congrArg (fun g : GSem nD τ sig => g.1.1) h) (Prod.ext ha (Prod.ext hb hk))⟩
/-- The barrier counters; the transfer counters. -/
abbrev barCells : Finset (GSem nD τ sig) := Finset.univ.map barEmb
abbrev trCells : Finset (GSem nD τ sig) := Finset.univ.map cellEmb
theorem cells_apart : Disjoint barCells trCells := by
  rw [Finset.disjoint_left]
  rintro g h₁ h₂
  obtain ⟨x, -, rfl⟩ := Finset.mem_map.mp h₁
  obtain ⟨y, -, h⟩ := Finset.mem_map.mp h₂
  exact absurd (congrArg Prod.snd h) (fun h => nomatch h)

/-- What the run's bookkeeping starts from: the staging counters', and the schedule's. -/
def u₀ : UU := (initOf (Pipeline.cells cfgs cellOf_inj) (Pipeline.launchToks cfgs cellOf_inj), launchOf barCells trCells toks)

/-- The schedule's start, all of it given to device 0. -/
def G (c : Dev nD) : sProp 𝕄 := if c = 0 then BI.own (ER (launchOf barCells trCells toks)) else iprop(emp)
theorem G_all : bigSep Finset.univ (G (F := F)) = BI.own (ER (launchOf barCells trCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
/-- The only counter of a device that the program keeps outside the kernel is its barrier. -/
theorem barrier_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## Each device's share -/

/-- What every device may know: all the invariants, and that every barrier is open. -/
def Shared (κ : GSem nD τ sig → ℕ) : sProp 𝕄 := iprop(allInv (blkP m) κ ∗ bigSep Finset.univ fun c : Dev nD => reached ER (barCell c) 0)
instance Shared_persistent (κ : GSem nD τ sig → ℕ) : BI.Persistent (Shared m κ) := by unfold Shared; infer_instance

/-- What is one device's alone, of the schedule. -/
def Own (c : Dev nD) : sProp 𝕄 := iprop(atPos ER (barCell c) 0 ∅ 0
    ∗ (bigSep Finset.univ fun x : Fin 3 × Fin 2 × Fin 4 => openTok ER (cell c x.1 x.2.1 x.2.2)) ∗ BarT c ∗ Toks c)
/-- What is one device's alone, besides. -/
def Rest (c : Dev nD) : sProp 𝕄 := iprop(StableHlo.held (c : Thread nD τ) (Pipeline.ucRefs τ sig) (V0 m c) ∗ Creds c ∗ owes (c : Thread nD τ) (O₀ c) ∅ ∗ ∃ r, prngReg c r)
/-- What a device starts its program with. -/
def T₀ (c : Dev nD) : sProp 𝕄 := iprop(StableHlo.held (c : Thread nD τ) (Pipeline.ucRefs τ sig) (V0 m c) ∗ E m 0 c)

theorem bar_open (a : Fin 3) (c : Dev nD) : (bigSep Finset.univ fun c : Dev nD => (reached ER (barCell c) 0 : sProp 𝕄)) ⊢ reached ER (barCell (nb a c)) 0 :=
  bigSep_elim (Φ := fun c : Dev nD => (reached ER (barCell c) 0 : sProp 𝕄)) (Finset.mem_univ (nb a c))

theorem share (κ : GSem nD τ sig → ℕ) (c : Dev nD) : iprop(Shared m κ ∗ Own c ∗ Rest m c) ⊢ T₀ m c := by
  unfold Shared Own Rest T₀ E Tk Rights Bt BarT
  rw [three_eq]
  iintro ⟨⟨#HI, #HR⟩, ⟨Hat, Hop, ⟨HB0, HB1, HB2⟩, HT⟩, Hh, HC, HO, Hp⟩
  isplitl [Hh]; · iexact Hh
  isplitl [Hat Hop HB0 HB1 HB2 HT HC]
  · isplitl [Hop]
    · iexists κ
      isplitr; · iexact HI
      iexact Hop
    isplitl [HB0 HB1 HB2 Hat]
    · isplitl [HB0 HB1 HB2]
      · isplitl [HB0]
        · isplitl [HB0]; · iexact HB0
          iapply (bar_open 0 c); iexact HR
        isplitl [HB1]
        · isplitl [HB1]; · iexact HB1
          iapply (bar_open 1 c); iexact HR
        isplitl [HB2]; · iexact HB2
        iapply (bar_open 2 c); iexact HR
      iexact Hat
    isplitl [HT]; · iexact HT
    iexact HC
  isplitl [Hp]; · iexact Hp
  iexists ∅; iexact HO

/-- What the machine gives a device. -/
abbrev Given (c : Dev nD) : sProp 𝕄 := iprop(unscopedBufs c (fun b => m ((c : Thread nD τ).loc b)) ∗ unscopedSems0 c
          ∗ owes (c : Thread nD τ) (O₀ c) ∅ ∗ Pipeline.launchCred O₀ c ∗ prngReg c (ρ c) ∗ G c)
theorem given (c : Dev nD) : Given m ρ c ⊢ iprop(Rest m c ∗ semVal (barCell c) 0 ∗ G c) := by
  unfold Given Rest
  rw [show unscopedBufs c (fun b => m ((c : Thread nD τ).loc b)) = StableHlo.held (c : Thread nD τ) (Pipeline.ucRefs τ sig) (V0 m c) from Pipeline.unscopedBufs_held c (V0 m c),
    barrier_only]
  iintro ⟨Hh, Hb, HO, Hcr, Hp, HG⟩
  isplitl [Hh HO Hcr Hp]
  · isplitl [Hh]; · iexact Hh
    isplitl [Hcr]; · iapply (all_credit c); iexact Hcr
    isplitl [HO]; · iexact HO
    iexists (ρ c); iexact Hp
  isplitl [Hb]; · iexact Hb
  iexact HG

/-- From what the machine gives, what every device starts with. -/
theorem init : iprop((bigSep Finset.univ fun c : Dev nD => Given m ρ c) ∗ levAts L lv) ⊢ (|={Set.univ}=> bigSep Finset.univ (T₀ m) : sProp 𝕄) := by
  have hg : (bigSep Finset.univ fun c : Dev nD => Given m ρ c) ⊢ bigSep Finset.univ fun c : Dev nD => iprop(Rest m c ∗ semVal (barCell c) 0 ∗ G c) :=
    bigSep_mono fun c _ => given m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep trCells (fun g => (openTok ER g : sProp 𝕄))
      ⊢ bigSep Finset.univ (fun c : Dev nD => (bigSep Finset.univ fun x : Fin 3 × Fin 2 × Fin 4 => (openTok ER (cell c x.1 x.2.1 x.2.2) : sProp 𝕄))) :=
    Entails.of_eq (by rw [bigSep_map, bigSep_univ_prod]; rfl)
  have hinv (κ : GSem nD τ sig → ℕ) : bigSep (barCells ∪ trCells) (fun g => (cellInv ER (Rd (blkP m)) (κ g) g : sProp 𝕄)) ⊢ allInv (blkP m) κ := by
    rw [bigSep_union2 cells_apart, bigSep_map, bigSep_map]; exact .rfl
  have hend (κ : GSem nD τ sig → ℕ) : iprop(Shared m κ ∗ bigSep Finset.univ fun c : Dev nD => iprop(Own c ∗ Rest m c)) ⊢ bigSep Finset.univ (T₀ m) :=
    bigSep_with_persistent fun c _ => share m κ c
  iintro ⟨H, -⟩
  ihave H := hg $$ H
  ihave H := (take_apart _ _ _) $$ H
  icases H with ⟨HB, H⟩
  ihave H := (take_apart _ _ _) $$ H
  icases H with ⟨Hv, HG⟩
  ihave HG := (Entails.of_eq (G_all (F := F))) $$ HG
  imod (Rounds.fund_launch ER (Rd (blkP m)) cells_apart (fun g _ h => h) toks) $$ [Hv HG] with ⟨%κ, -, Hinv, Hre, Hat, Hop, Htok⟩
  · isplitl [Hv]
    · iapply hv; iexact Hv
    · iexact HG
  imodintro
  ihave Htok := (deal (F := F)) $$ Htok
  ihave Htok := (take_apart _ _ _) $$ Htok
  icases Htok with ⟨HtB, HtT⟩
  iapply (hend κ)
  isplitl [Hinv Hre]
  · unfold Shared
    isplitl [Hinv]; · iapply (hinv κ); iexact Hinv
    iapply hre; iexact Hre
  iapply (pair_up _ _ _)
  isplitr [HB]
  · unfold Own
    iapply (pair_up _ _ _); isplitl [Hat]; · iapply hat; iexact Hat
    iapply (pair_up _ _ _); isplitl [Hop]; · iapply hop; iexact Hop
    iapply (pair_up _ _ _); isplitl [HtB]; · iexact HtB
    iexact HtT
  · iexact HB

/-! ## The run -/

theorem unscoped_eq : ∀ sm : SemLoc sig, sm.isScoped .tc = false → sm = .reg barS := by decide

/-- What a device's program ends with. -/
def Tend (c : Dev nD) : sProp 𝕄 := iprop(StableHlo.held (c : Thread nD τ) (Pipeline.ucRefs τ sig) (V4 m (outs m) c) ∗ semVal (barCell c) 0)

set_option backward.isDefEq.respectTransparency.types false in
/-- From any memory with every counter at zero, every fair run of the program on the sixteen devices ends: its arguments as
    they were, each result what the kernel leaves on its device, every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v22) = left m c) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tend m)
    (hch := fun c => ⟨.rfl, .rfl, .rfl, reg_pre m c, (reg_post m c).trans (by
      unfold E Tend
      iintro ⟨Hh, Hb, HO⟩
      isplitr [HO]
      · isplitl [Hh]; · iexact Hh
        iexact Hb
      iexact HO)⟩)
    (hinit := init m ρ)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v22) = left m c) ∧ s.sem (barCell c) = 0)
    (hfin := fun c s' => by
      unfold Tend StableHlo.held
      iintro ⟨⟨Hh, Hb⟩, HSI⟩
      icombine HSI Hb gives %hb
      ihave Hr := (pointsTo_read_all (Pipeline.ucRefs τ sig) (fun b => ((c : Thread nD τ).1, b)) (V4 m (outs m) c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans (V4_main_arg0 m (outs m) c),
          (h (Proc.devRef .tc main_arg1) (Finset.mem_filter.mpr ⟨StableHlo.devRef_mem_tcRefs main_arg1, by decide⟩)).trans (V4_main_arg1 m (outs m) c),
          (h (Proc.devRef .tc main_v22) (Finset.mem_filter.mpr ⟨StableHlo.devRef_mem_tcRefs main_v22, by decide⟩)).trans (V4_out m c)⟩, by simpa using hb⟩
      iexact HSI)
    (hQ := fun s h hs => ⟨fun c => (h c).1, sem_eq_zero hs fun c sm hsm => by
      obtain rfl := unscoped_eq sm hsm
      exact (h c).2⟩)

end Cert.GradProof
-- ==== Proof.lean ====
/-
# The claims

The frames of the program as printed and as idealized come from one run, written for any floats. The value claim is that run,
with its result read off, beside the reference's.
-/
module

public import proofs.«01_k».proof.Defs
public import proofs.«01_k».proof.Proof.Gen.Kernel
public import proofs.«01_k».proof.Proof.Gen.ReferenceIdeal.Run
public import proofs.«01_k».proof.Proof.IdealVal
public import proofs.«01_k».proof.Proof.Launch

@[expose] public section

noncomputable section

namespace Cert.Proof

open Idealize.ShloMosaic Idealize.ShloMosaic.TcCoe Idealize.SL.Sem Cert.GradProof

/-- The two programs' tables of kernel bodies are the same. -/
theorem bodies_eq : Cert.Kernel.defs₀ (F := Bits) = Cert.KernelIdeal.defs₀ (F := Bits) := by
  unfold Cert.Kernel.defs₀ Cert.KernelIdeal.defs₀
  refine congrArg (Defs.onTc (nD := 16)) ?_
  funext l a
  match l, a with
  | 0, (t, s) => exact rfl

/-- So are their whole tables. -/
theorem defs_eq : Cert.Kernel.defs (F := Bits) = Cert.KernelIdeal.defs (F := Bits) := congrArg (Pipeline.defs _) bodies_eq

/-- And their host programs. -/
theorem main_eq : Cert.Kernel.main (F := Bits) = Cert.KernelIdeal.main (F := Bits) := rfl

/-- The program ends under any equal table and host program, its arguments unchanged, every counter at zero. -/
theorem frame_of {D : Defs Cert.KernelIdeal.nD Cert.KernelIdeal.τ Cert.KernelIdeal.sig (Elt Bits) _} {M : Dev Cert.KernelIdeal.nD → _}
    (hD : D = Cert.KernelIdeal.defs (F := Bits)) (hM : M = Cert.KernelIdeal.main (F := Bits))
    (m : (ℓ : Loc Cert.KernelIdeal.nD Cert.KernelIdeal.τ Cert.KernelIdeal.sig) → Buf (Elt Bits) ℓ) (ρ : Dev Cert.KernelIdeal.nD → PrngReg) :
    θ_run D (onTc (τ := Cert.KernelIdeal.τ) M) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  subst hD hM
  exact (θ_run Cert.KernelIdeal.defs _ _).mono (fun _ h => ⟨fun c => ⟨(h.1 c).1, (h.1 c).2.1⟩, h.2⟩) (run_main (F := Bits) m ρ)

/-- The program as printed ends, its arguments unchanged, every counter at zero. -/
theorem frame_kernel : Cert.quiescent_Kernel := fun m ρ _ => frame_of defs_eq main_eq m ρ

/-- So does the idealized program. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference ends, its arguments unchanged; it has no counter that anything raises. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the reference's. -/
theorem value : Cert.algebraic_KernelIdeal_ReferenceIdeal := fun m ρ m' ρ' _ hm =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (left_ref m _ _ (fun d => (hm d).1) (fun d => (hm d).2) c), (h.1 c).1, (h.1 c).2.1⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
